-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S8x14x2x512 Cert.KernelIdeal.S8x14x1x512
  ∧ IdealRules.bf16_pair.PackStatement Cert.KernelIdeal.S14x512
  ∧ IdealRules.bf16_pair.Statement Cert.KernelIdeal.S1x14x2x512 Cert.KernelIdeal.S1x14x1x512
  ∧ IdealRules.bf16_pair.Statement Cert.KernelIdeal.S1x1x2x512 Cert.KernelIdeal.S1x1x1x512
  ∧ IdealRules.bf16_pair.Statement Cert.KernelIdeal.S32x512 Cert.KernelIdeal.S16x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x3584 : Shape := ⟨3, ![1, 128, 3584]⟩
abbrev S14x18944x32 : Shape := ⟨3, ![14, 18944, 32]⟩
abbrev S14x18944x64 : Shape := ⟨3, ![14, 18944, 64]⟩
abbrev S14x18944x12 : Shape := ⟨3, ![14, 18944, 12]⟩
abbrev S14x18944 : Shape := ⟨2, ![14, 18944]⟩
abbrev S128x3584 : Shape := ⟨2, ![128, 3584]⟩
abbrev S14x32x18944 : Shape := ⟨3, ![14, 32, 18944]⟩
abbrev S14x64x18944 : Shape := ⟨3, ![14, 64, 18944]⟩
abbrev S12x14x18944 : Shape := ⟨3, ![12, 14, 18944]⟩
abbrev S128x18944 : Shape := ⟨2, ![128, 18944]⟩
abbrev S14x32x512 : Shape := ⟨3, ![14, 32, 512]⟩
abbrev S14x64x512 : Shape := ⟨3, ![14, 64, 512]⟩
abbrev S12x14x512 : Shape := ⟨3, ![12, 14, 512]⟩
abbrev S14x512 : Shape := ⟨2, ![14, 512]⟩
abbrev S128x512 : Shape := ⟨2, ![128, 512]⟩
abbrev S8x14x512 : Shape := ⟨3, ![8, 14, 512]⟩
abbrev S256x256 : Shape := ⟨2, ![256, 256]⟩
abbrev S128x256 : Shape := ⟨2, ![128, 256]⟩
abbrev S1x14x512 : Shape := ⟨3, ![1, 14, 512]⟩
abbrev S1x32x512 : Shape := ⟨3, ![1, 32, 512]⟩
abbrev S32x512 : Shape := ⟨2, ![32, 512]⟩
abbrev S8x512 : Shape := ⟨2, ![8, 512]⟩
abbrev S8x1x512 : Shape := ⟨3, ![8, 1, 512]⟩
abbrev S8x8x512 : Shape := ⟨3, ![8, 8, 512]⟩
abbrev S64x512 : Shape := ⟨2, ![64, 512]⟩
abbrev S1x1x512 : Shape := ⟨3, ![1, 1, 512]⟩
abbrev S1x512 : Shape := ⟨2, ![1, 512]⟩
abbrev S16x512 : Shape := ⟨2, ![16, 512]⟩
abbrev S256x512 : Shape := ⟨2, ![256, 512]⟩

abbrev nBuf : Space → Nat
  | .hbm => 10
  | .vmem => 13
  | .smem => 0
  | _ => 0

abbrev bufTy : (tb : Table) → Fin (tcTables nBuf tb) → BufTy
  | .hbm, ⟨0, _⟩ => ⟨S1x128x3584, .bf16⟩
  | .hbm, ⟨1, _⟩ => ⟨S14x18944x32, .i8⟩
  | .hbm, ⟨2, _⟩ => ⟨S14x18944x64, .i8⟩
  | .hbm, ⟨3, _⟩ => ⟨S14x18944x12, .i8⟩
  | .hbm, ⟨4, _⟩ => ⟨S14x18944, .i16⟩
  | .hbm, ⟨5, _⟩ => ⟨S128x3584, .bf16⟩
  | .hbm, ⟨6, _⟩ => ⟨S14x32x18944, .i8⟩
  | .hbm, ⟨7, _⟩ => ⟨S14x64x18944, .i8⟩
  | .hbm, ⟨8, _⟩ => ⟨S12x14x18944, .i8⟩
  | .hbm, ⟨9, _⟩ => ⟨S128x18944, .bf16⟩
  | .local _ .vmem, ⟨0, _⟩ => ⟨S128x3584, .bf16⟩
  | .local _ .vmem, ⟨1, _⟩ => ⟨S14x32x512, .i8⟩
  | .local _ .vmem, ⟨2, _⟩ => ⟨S14x32x512, .i8⟩
  | .local _ .vmem, ⟨3, _⟩ => ⟨S14x64x512, .i8⟩
  | .local _ .vmem, ⟨4, _⟩ => ⟨S14x64x512, .i8⟩
  | .local _ .vmem, ⟨5, _⟩ => ⟨S12x14x512, .i8⟩
  | .local _ .vmem, ⟨6, _⟩ => ⟨S12x14x512, .i8⟩
  | .local _ .vmem, ⟨7, _⟩ => ⟨S14x512, .i16⟩
  | .local _ .vmem, ⟨8, _⟩ => ⟨S14x512, .i16⟩
  | .local _ .vmem, ⟨9, _⟩ => ⟨S128x512, .bf16⟩
  | .local _ .vmem, ⟨10, _⟩ => ⟨S128x512, .bf16⟩
  | .local _ .vmem, ⟨11, _⟩ => ⟨S128x3584, .bf16⟩
  | .local _ .vmem, ⟨12, _⟩ => ⟨S8x14x512, .i32⟩
  | _, _ => ⟨S1x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S14x32x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S14x64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x14x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S14x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S8x14x2x512 : Shape := ⟨4, ![8, 14, 2, 512]⟩
abbrev S8x14x1x512 : Shape := ⟨4, ![8, 14, 1, 512]⟩
abbrev S1x14x2x512 : Shape := ⟨4, ![1, 14, 2, 512]⟩
abbrev S1x14x1x512 : Shape := ⟨4, ![1, 14, 1, 512]⟩
abbrev S1x1x2x512 : Shape := ⟨4, ![1, 1, 2, 512]⟩
abbrev S1x1x1x512 : Shape := ⟨4, ![1, 1, 1, 512]⟩
  | .local _ .vmem, ⟨12, _⟩ => ⟨S8x14x2x512, .bf16⟩
variable {F : FTy → Type} [FloatOps F]
-- ==== ReferenceIdeal.lean ====
abbrev S1x128x3584 : Shape := ⟨3, ![1, 128, 3584]⟩
abbrev S14x18944x32 : Shape := ⟨3, ![14, 18944, 32]⟩
abbrev S14x18944x64 : Shape := ⟨3, ![14, 18944, 64]⟩
abbrev S14x18944x12 : Shape := ⟨3, ![14, 18944, 12]⟩
abbrev S14x18944 : Shape := ⟨2, ![14, 18944]⟩
abbrev S14x18944x8 : Shape := ⟨3, ![14, 18944, 8]⟩
abbrev S_ : Shape := ⟨0, ![]⟩
abbrev S14x18944x16 : Shape := ⟨3, ![14, 18944, 16]⟩
abbrev S14x18944x4 : Shape := ⟨3, ![14, 18944, 4]⟩
abbrev S14x18944x1x4 : Shape := ⟨4, ![14, 18944, 1, 4]⟩
abbrev S4 : Shape := ⟨1, ![4]⟩
abbrev S4x1 : Shape := ⟨2, ![4, 1]⟩
abbrev S1x1x4x1 : Shape := ⟨4, ![1, 1, 4, 1]⟩
abbrev S14x18944x4x4 : Shape := ⟨4, ![14, 18944, 4, 4]⟩
abbrev S14x18944x1 : Shape := ⟨3, ![14, 18944, 1]⟩
abbrev S14x18944x8x2 : Shape := ⟨4, ![14, 18944, 8, 2]⟩
abbrev S14x18944x2x32 : Shape := ⟨4, ![14, 18944, 2, 32]⟩
abbrev S1x128x14x2x4x32 : Shape := ⟨6, ![1, 128, 14, 2, 4, 32]⟩
abbrev S14x18944x1x32 : Shape := ⟨4, ![14, 18944, 1, 32]⟩
abbrev S14x18944x1x2 : Shape := ⟨4, ![14, 18944, 1, 2]⟩
abbrev S14x18944x2 : Shape := ⟨3, ![14, 18944, 2]⟩
abbrev S14x18944x2x16 : Shape := ⟨4, ![14, 18944, 2, 16]⟩
abbrev S1x128x14x1x1x32 : Shape := ⟨6, ![1, 128, 14, 1, 1, 32]⟩
abbrev S1x128x14x32 : Shape := ⟨4, ![1, 128, 14, 32]⟩
abbrev S1x128x18944 : Shape := ⟨3, ![1, 128, 18944]⟩
abbrev S128x18944 : Shape := ⟨2, ![128, 18944]⟩

abbrev nBuf : Space → Nat
  | .hbm => 350
  | .vmem => 0
  | .smem => 0
  | _ => 0

abbrev hbmTy0_0 (i : Nat) : BufTy := match i % 128 with
  | 0 => ⟨S1x128x3584, .bf16⟩
  | 1 => ⟨S14x18944x32, .i8⟩
  | 2 => ⟨S14x18944x64, .i8⟩
  | 3 => ⟨S14x18944x12, .i8⟩
  | 4 => ⟨S14x18944, .i16⟩
  | 5 => ⟨S14x18944x12, .i32⟩
  | 6 => ⟨S14x18944x8, .i32⟩
  | 7 => ⟨S_, .i32⟩
  | 8 => ⟨S14x18944x8, .i32⟩
  | 9 => ⟨S14x18944x8, .i32⟩
  | 10 => ⟨S14x18944x8, .i32⟩
  | 11 => ⟨S_, .i32⟩
  | 12 => ⟨S14x18944x8, .i32⟩
  | 13 => ⟨S14x18944x8, .i32⟩
  | 14 => ⟨S14x18944x16, .i32⟩
  | 15 => ⟨S14x18944x4, .i32⟩
  | 16 => ⟨S14x18944x1x4, .i32⟩
  | 17 => ⟨S4, .i32⟩
  | 18 => ⟨S_, .i32⟩
  | 19 => ⟨S4, .i32⟩
  | 20 => ⟨S4, .i32⟩
  | 21 => ⟨S4x1, .i32⟩
  | 22 => ⟨S1x1x4x1, .i32⟩
  | 23 => ⟨S14x18944x4x4, .i32⟩
  | 24 => ⟨S14x18944x4x4, .i32⟩
  | 25 => ⟨S14x18944x4x4, .i32⟩
  | 26 => ⟨S_, .i32⟩
  | 27 => ⟨S14x18944x4x4, .i32⟩
  | 28 => ⟨S14x18944x4x4, .i32⟩
  | 29 => ⟨S14x18944x16, .i32⟩
  | 30 => ⟨S_, .i32⟩
  | 31 => ⟨S14x18944x16, .i32⟩
  | 32 => ⟨S14x18944x16, .i32⟩
  | 33 => ⟨S14x18944x16, .i32⟩
  | 34 => ⟨S14x18944, .i32⟩
  | 35 => ⟨S_, .i32⟩
  | 36 => ⟨S14x18944, .i32⟩
  | 37 => ⟨S14x18944, .i1⟩
  | 38 => ⟨S_, .f32⟩
  | 39 => ⟨S_, .f32⟩
  | 40 => ⟨S14x18944, .f32⟩
  | 41 => ⟨S14x18944, .f32⟩
  | 42 => ⟨S14x18944, .f32⟩
  | 43 => ⟨S_, .i32⟩
  | 44 => ⟨S14x18944, .i32⟩
  | 45 => ⟨S14x18944, .i32⟩
  | 46 => ⟨S_, .i32⟩
  | 47 => ⟨S14x18944, .i32⟩
  | 48 => ⟨S14x18944, .i32⟩
  | 49 => ⟨S_, .i32⟩
  | 50 => ⟨S14x18944, .i32⟩
  | 51 => ⟨S14x18944, .i32⟩
  | 52 => ⟨S14x18944, .f32⟩
  | 53 => ⟨S_, .f32⟩
  | 54 => ⟨S14x18944, .f32⟩
  | 55 => ⟨S14x18944, .f32⟩
  | 56 => ⟨S_, .f32⟩
  | 57 => ⟨S14x18944, .f32⟩
  | 58 => ⟨S14x18944, .f32⟩
  | 59 => ⟨S_, .i32⟩
  | 60 => ⟨S14x18944, .i32⟩
  | 61 => ⟨S14x18944, .i32⟩
  | 62 => ⟨S14x18944, .f32⟩
  | 63 => ⟨S_, .f32⟩
  | 64 => ⟨S14x18944, .f32⟩
  | 65 => ⟨S14x18944, .f32⟩
  | 66 => ⟨S14x18944, .f32⟩
  | 67 => ⟨S_, .i32⟩
  | 68 => ⟨S14x18944, .i32⟩
  | 69 => ⟨S14x18944, .i1⟩
  | 70 => ⟨S14x18944, .f32⟩
  | 71 => ⟨S_, .i32⟩
  | 72 => ⟨S14x18944, .i32⟩
  | 73 => ⟨S14x18944, .i1⟩
  | 74 => ⟨S_, .f32⟩
  | 75 => ⟨S14x18944, .f32⟩
  | 76 => ⟨S14x18944, .f32⟩
  | 77 => ⟨S14x18944, .f32⟩
  | 78 => ⟨S_, .i32⟩
  | 79 => ⟨S14x18944, .i32⟩
  | 80 => ⟨S14x18944, .i1⟩
  | 81 => ⟨S_, .i32⟩
  | 82 => ⟨S14x18944, .i32⟩
  | 83 => ⟨S14x18944, .i1⟩
  | 84 => ⟨S14x18944, .i1⟩
  | 85 => ⟨S_, .f32⟩
  | 86 => ⟨S14x18944, .f32⟩
  | 87 => ⟨S14x18944, .f32⟩
  | 88 => ⟨S14x18944x1, .f32⟩
  | 89 => ⟨S_, .i32⟩
  | 90 => ⟨S14x18944x16, .i32⟩
  | 91 => ⟨S14x18944x16, .i32⟩
  | 92 => ⟨S14x18944x16, .f32⟩
  | 93 => ⟨S14x18944x16, .f32⟩
  | 94 => ⟨S14x18944x16, .f32⟩
  | 95 => ⟨S14x18944x16, .bf16⟩
  | 96 => ⟨S14x18944x8x2, .bf16⟩
  | 97 => ⟨S14x18944x2x32, .i8⟩
  | 98 => ⟨S14x18944x2x32, .i32⟩
  | 99 => ⟨S14x18944x32, .i32⟩
  | 100 => ⟨S1x128x14x2x4x32, .bf16⟩
  | 101 => ⟨S14x18944x1x32, .i32⟩
  | 102 => ⟨S14x18944x32, .i32⟩
  | 103 => ⟨S_, .i32⟩
  | 104 => ⟨S14x18944x32, .i32⟩
  | 105 => ⟨S14x18944x32, .i32⟩
  | 106 => ⟨S_, .i32⟩
  | 107 => ⟨S14x18944x32, .i32⟩
  | 108 => ⟨S14x18944x32, .i32⟩
  | 109 => ⟨S_, .i32⟩
  | 110 => ⟨S14x18944x32, .i32⟩
  | 111 => ⟨S14x18944x32, .i32⟩
  | 112 => ⟨S_, .i32⟩
  | 113 => ⟨S14x18944x32, .i32⟩
  | 114 => ⟨S14x18944x32, .i32⟩
  | 115 => ⟨S_, .i32⟩
  | 116 => ⟨S14x18944x32, .i32⟩
  | 117 => ⟨S14x18944x32, .i32⟩
  | 118 => ⟨S14x18944x32, .i32⟩
  | 119 => ⟨S_, .i32⟩
  | 120 => ⟨S14x18944x32, .i32⟩
  | 121 => ⟨S14x18944x32, .i32⟩
  | 122 => ⟨S14x18944x32, .bf16⟩
  | 123 => ⟨S14x18944x1x2, .bf16⟩
  | 124 => ⟨S14x18944x2, .bf16⟩
  | 125 => ⟨S14x18944x2x16, .bf16⟩
  | 126 => ⟨S14x18944x32, .bf16⟩
  | 127 => ⟨S14x18944x32, .bf16⟩
  | _ => ⟨S1x128x3584, .bf16⟩

abbrev hbmTy0_1 (i : Nat) : BufTy := match i % 128 with
  | 0 => ⟨S1x128x14x1x1x32, .bf16⟩
  | 1 => ⟨S1x128x14x32, .bf16⟩
  | 2 => ⟨S1x128x18944, .f32⟩
  | 3 => ⟨S14x18944x1x32, .i32⟩
  | 4 => ⟨S14x18944x32, .i32⟩
  | 5 => ⟨S_, .i32⟩
  | 6 => ⟨S14x18944x32, .i32⟩
  | 7 => ⟨S14x18944x32, .i32⟩
  | 8 => ⟨S_, .i32⟩
  | 9 => ⟨S14x18944x32, .i32⟩
  | 10 => ⟨S14x18944x32, .i32⟩
  | 11 => ⟨S_, .i32⟩
  | 12 => ⟨S14x18944x32, .i32⟩
  | 13 => ⟨S14x18944x32, .i32⟩
  | 14 => ⟨S_, .i32⟩
  | 15 => ⟨S14x18944x32, .i32⟩
  | 16 => ⟨S14x18944x32, .i32⟩
  | 17 => ⟨S_, .i32⟩
  | 18 => ⟨S14x18944x32, .i32⟩
  | 19 => ⟨S14x18944x32, .i32⟩
  | 20 => ⟨S14x18944x32, .i32⟩
  | 21 => ⟨S_, .i32⟩
  | 22 => ⟨S14x18944x32, .i32⟩
  | 23 => ⟨S14x18944x32, .i32⟩
  | 24 => ⟨S14x18944x32, .bf16⟩
  | 25 => ⟨S14x18944x1x2, .bf16⟩
  | 26 => ⟨S14x18944x2, .bf16⟩
  | 27 => ⟨S14x18944x2x16, .bf16⟩
  | 28 => ⟨S14x18944x32, .bf16⟩
  | 29 => ⟨S14x18944x32, .bf16⟩
  | 30 => ⟨S1x128x14x1x1x32, .bf16⟩
  | 31 => ⟨S1x128x14x32, .bf16⟩
  | 32 => ⟨S1x128x18944, .f32⟩
  | 33 => ⟨S1x128x18944, .f32⟩
  | 34 => ⟨S14x18944x1x32, .i32⟩
  | 35 => ⟨S14x18944x32, .i32⟩
  | 36 => ⟨S_, .i32⟩
  | 37 => ⟨S14x18944x32, .i32⟩
  | 38 => ⟨S14x18944x32, .i32⟩
  | 39 => ⟨S_, .i32⟩
  | 40 => ⟨S14x18944x32, .i32⟩
  | 41 => ⟨S14x18944x32, .i32⟩
  | 42 => ⟨S_, .i32⟩
  | 43 => ⟨S14x18944x32, .i32⟩
  | 44 => ⟨S14x18944x32, .i32⟩
  | 45 => ⟨S_, .i32⟩
  | 46 => ⟨S14x18944x32, .i32⟩
  | 47 => ⟨S14x18944x32, .i32⟩
  | 48 => ⟨S_, .i32⟩
  | 49 => ⟨S14x18944x32, .i32⟩
  | 50 => ⟨S14x18944x32, .i32⟩
  | 51 => ⟨S14x18944x32, .i32⟩
  | 52 => ⟨S_, .i32⟩
  | 53 => ⟨S14x18944x32, .i32⟩
  | 54 => ⟨S14x18944x32, .i32⟩
  | 55 => ⟨S14x18944x32, .bf16⟩
  | 56 => ⟨S14x18944x1x2, .bf16⟩
  | 57 => ⟨S14x18944x2, .bf16⟩
  | 58 => ⟨S14x18944x2x16, .bf16⟩
  | 59 => ⟨S14x18944x32, .bf16⟩
  | 60 => ⟨S14x18944x32, .bf16⟩
  | 61 => ⟨S1x128x14x1x1x32, .bf16⟩
  | 62 => ⟨S1x128x14x32, .bf16⟩
  | 63 => ⟨S1x128x18944, .f32⟩
  | 64 => ⟨S1x128x18944, .f32⟩
  | 65 => ⟨S14x18944x1x32, .i32⟩
  | 66 => ⟨S14x18944x32, .i32⟩
  | 67 => ⟨S_, .i32⟩
  | 68 => ⟨S14x18944x32, .i32⟩
  | 69 => ⟨S14x18944x32, .i32⟩
  | 70 => ⟨S_, .i32⟩
  | 71 => ⟨S14x18944x32, .i32⟩
  | 72 => ⟨S14x18944x32, .i32⟩
  | 73 => ⟨S_, .i32⟩
  | 74 => ⟨S14x18944x32, .i32⟩
  | 75 => ⟨S14x18944x32, .i32⟩
  | 76 => ⟨S_, .i32⟩
  | 77 => ⟨S14x18944x32, .i32⟩
  | 78 => ⟨S14x18944x32, .i32⟩
  | 79 => ⟨S_, .i32⟩
  | 80 => ⟨S14x18944x32, .i32⟩
  | 81 => ⟨S14x18944x32, .i32⟩
  | 82 => ⟨S14x18944x32, .i32⟩
  | 83 => ⟨S_, .i32⟩
  | 84 => ⟨S14x18944x32, .i32⟩
  | 85 => ⟨S14x18944x32, .i32⟩
  | 86 => ⟨S14x18944x32, .bf16⟩
  | 87 => ⟨S14x18944x1x2, .bf16⟩
  | 88 => ⟨S14x18944x2, .bf16⟩
  | 89 => ⟨S14x18944x2x16, .bf16⟩
  | 90 => ⟨S14x18944x32, .bf16⟩
  | 91 => ⟨S14x18944x32, .bf16⟩
  | 92 => ⟨S1x128x14x1x1x32, .bf16⟩
  | 93 => ⟨S1x128x14x32, .bf16⟩
  | 94 => ⟨S1x128x18944, .f32⟩
  | 95 => ⟨S1x128x18944, .f32⟩
  | 96 => ⟨S14x18944x1x32, .i32⟩
  | 97 => ⟨S14x18944x32, .i32⟩
  | 98 => ⟨S_, .i32⟩
  | 99 => ⟨S14x18944x32, .i32⟩
  | 100 => ⟨S14x18944x32, .i32⟩
  | 101 => ⟨S_, .i32⟩
  | 102 => ⟨S14x18944x32, .i32⟩
  | 103 => ⟨S14x18944x32, .i32⟩
  | 104 => ⟨S_, .i32⟩
  | 105 => ⟨S14x18944x32, .i32⟩
  | 106 => ⟨S14x18944x32, .i32⟩
  | 107 => ⟨S_, .i32⟩
  | 108 => ⟨S14x18944x32, .i32⟩
  | 109 => ⟨S14x18944x32, .i32⟩
  | 110 => ⟨S_, .i32⟩
  | 111 => ⟨S14x18944x32, .i32⟩
  | 112 => ⟨S14x18944x32, .i32⟩
  | 113 => ⟨S14x18944x32, .i32⟩
  | 114 => ⟨S_, .i32⟩
  | 115 => ⟨S14x18944x32, .i32⟩
  | 116 => ⟨S14x18944x32, .i32⟩
  | 117 => ⟨S14x18944x32, .bf16⟩
  | 118 => ⟨S14x18944x1x2, .bf16⟩
  | 119 => ⟨S14x18944x2, .bf16⟩
  | 120 => ⟨S14x18944x2x16, .bf16⟩
  | 121 => ⟨S14x18944x32, .bf16⟩
  | 122 => ⟨S14x18944x32, .bf16⟩
  | 123 => ⟨S1x128x14x1x1x32, .bf16⟩
  | 124 => ⟨S1x128x14x32, .bf16⟩
  | 125 => ⟨S1x128x18944, .f32⟩
  | 126 => ⟨S1x128x18944, .f32⟩
  | 127 => ⟨S14x18944x1x32, .i32⟩
  | _ => ⟨S1x128x3584, .bf16⟩

abbrev hbmTy0_2 (i : Nat) : BufTy := match i % 128 with
  | 0 => ⟨S14x18944x32, .i32⟩
  | 1 => ⟨S_, .i32⟩
  | 2 => ⟨S14x18944x32, .i32⟩
  | 3 => ⟨S14x18944x32, .i32⟩
  | 4 => ⟨S_, .i32⟩
  | 5 => ⟨S14x18944x32, .i32⟩
  | 6 => ⟨S14x18944x32, .i32⟩
  | 7 => ⟨S_, .i32⟩
  | 8 => ⟨S14x18944x32, .i32⟩
  | 9 => ⟨S14x18944x32, .i32⟩
  | 10 => ⟨S_, .i32⟩
  | 11 => ⟨S14x18944x32, .i32⟩
  | 12 => ⟨S14x18944x32, .i32⟩
  | 13 => ⟨S_, .i32⟩
  | 14 => ⟨S14x18944x32, .i32⟩
  | 15 => ⟨S14x18944x32, .i32⟩
  | 16 => ⟨S14x18944x32, .i32⟩
  | 17 => ⟨S_, .i32⟩
  | 18 => ⟨S14x18944x32, .i32⟩
  | 19 => ⟨S14x18944x32, .i32⟩
  | 20 => ⟨S14x18944x32, .bf16⟩
  | 21 => ⟨S14x18944x1x2, .bf16⟩
  | 22 => ⟨S14x18944x2, .bf16⟩
  | 23 => ⟨S14x18944x2x16, .bf16⟩
  | 24 => ⟨S14x18944x32, .bf16⟩
  | 25 => ⟨S14x18944x32, .bf16⟩
  | 26 => ⟨S1x128x14x1x1x32, .bf16⟩
  | 27 => ⟨S1x128x14x32, .bf16⟩
  | 28 => ⟨S1x128x18944, .f32⟩
  | 29 => ⟨S1x128x18944, .f32⟩
  | 30 => ⟨S14x18944x1x32, .i32⟩
  | 31 => ⟨S14x18944x32, .i32⟩
  | 32 => ⟨S_, .i32⟩
  | 33 => ⟨S14x18944x32, .i32⟩
  | 34 => ⟨S14x18944x32, .i32⟩
  | 35 => ⟨S_, .i32⟩
  | 36 => ⟨S14x18944x32, .i32⟩
  | 37 => ⟨S14x18944x32, .i32⟩
  | 38 => ⟨S_, .i32⟩
  | 39 => ⟨S14x18944x32, .i32⟩
  | 40 => ⟨S14x18944x32, .i32⟩
  | 41 => ⟨S_, .i32⟩
  | 42 => ⟨S14x18944x32, .i32⟩
  | 43 => ⟨S14x18944x32, .i32⟩
  | 44 => ⟨S_, .i32⟩
  | 45 => ⟨S14x18944x32, .i32⟩
  | 46 => ⟨S14x18944x32, .i32⟩
  | 47 => ⟨S14x18944x32, .i32⟩
  | 48 => ⟨S_, .i32⟩
  | 49 => ⟨S14x18944x32, .i32⟩
  | 50 => ⟨S14x18944x32, .i32⟩
  | 51 => ⟨S14x18944x32, .bf16⟩
  | 52 => ⟨S14x18944x1x2, .bf16⟩
  | 53 => ⟨S14x18944x2, .bf16⟩
  | 54 => ⟨S14x18944x2x16, .bf16⟩
  | 55 => ⟨S14x18944x32, .bf16⟩
  | 56 => ⟨S14x18944x32, .bf16⟩
  | 57 => ⟨S1x128x14x1x1x32, .bf16⟩
  | 58 => ⟨S1x128x14x32, .bf16⟩
  | 59 => ⟨S1x128x18944, .f32⟩
  | 60 => ⟨S1x128x18944, .f32⟩
  | 61 => ⟨S14x18944x1x32, .i32⟩
  | 62 => ⟨S14x18944x32, .i32⟩
  | 63 => ⟨S_, .i32⟩
  | 64 => ⟨S14x18944x32, .i32⟩
  | 65 => ⟨S14x18944x32, .i32⟩
  | 66 => ⟨S_, .i32⟩
  | 67 => ⟨S14x18944x32, .i32⟩
  | 68 => ⟨S14x18944x32, .i32⟩
  | 69 => ⟨S_, .i32⟩
  | 70 => ⟨S14x18944x32, .i32⟩
  | 71 => ⟨S14x18944x32, .i32⟩
  | 72 => ⟨S_, .i32⟩
  | 73 => ⟨S14x18944x32, .i32⟩
  | 74 => ⟨S14x18944x32, .i32⟩
  | 75 => ⟨S_, .i32⟩
  | 76 => ⟨S14x18944x32, .i32⟩
  | 77 => ⟨S14x18944x32, .i32⟩
  | 78 => ⟨S14x18944x32, .i32⟩
  | 79 => ⟨S_, .i32⟩
  | 80 => ⟨S14x18944x32, .i32⟩
  | 81 => ⟨S14x18944x32, .i32⟩
  | 82 => ⟨S14x18944x32, .bf16⟩
  | 83 => ⟨S14x18944x1x2, .bf16⟩
  | 84 => ⟨S14x18944x2, .bf16⟩
  | 85 => ⟨S14x18944x2x16, .bf16⟩
  | 86 => ⟨S14x18944x32, .bf16⟩
  | 87 => ⟨S14x18944x32, .bf16⟩
  | 88 => ⟨S1x128x14x1x1x32, .bf16⟩
  | 89 => ⟨S1x128x14x32, .bf16⟩
  | 90 => ⟨S1x128x18944, .f32⟩
  | 91 => ⟨S1x128x18944, .f32⟩
  | 92 => ⟨S1x128x18944, .bf16⟩
  | 93 => ⟨S128x18944, .bf16⟩
  | _ => ⟨S1x128x3584, .bf16⟩

abbrev hbmTy (i : Nat) : BufTy := match i / 128 with
  | 0 => hbmTy0_0 i
  | 1 => hbmTy0_1 i
  | 2 => hbmTy0_2 i
  | _ => ⟨S1x128x3584, .bf16⟩

abbrev bufTy : (tb : Table) → Fin (tcTables nBuf tb) → BufTy
  | .hbm, ⟨i, _⟩ => hbmTy i
  | _, _ => ⟨S1x128x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_14 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_call2_v0 : Ref sig .tc := ⟨.hbm, 75, rfl⟩
abbrev main_v50 : Ref sig .tc := ⟨.hbm, 76, rfl⟩
abbrev main_v51 : Ref sig .tc := ⟨.hbm, 77, rfl⟩
abbrev main_c_16 : Ref sig .tc := ⟨.hbm, 78, rfl⟩
abbrev main_v52 : Ref sig .tc := ⟨.hbm, 79, rfl⟩
abbrev main_v53 : Ref sig .tc := ⟨.hbm, 80, rfl⟩
abbrev main_c_17 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_18 : Ref sig .tc := ⟨.hbm, 85, rfl⟩
abbrev main_call3_v0 : Ref sig .tc := ⟨.hbm, 86, rfl⟩
abbrev main_v57 : Ref sig .tc := ⟨.hbm, 87, rfl⟩
abbrev main_v58 : Ref sig .tc := ⟨.hbm, 88, rfl⟩
abbrev main_c_19 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_20 : Ref sig .tc := ⟨.hbm, 103, rfl⟩
abbrev main_v72 : Ref sig .tc := ⟨.hbm, 104, rfl⟩
abbrev main_v73 : Ref sig .tc := ⟨.hbm, 105, rfl⟩
abbrev main_c_21 : Ref sig .tc := ⟨.hbm, 106, rfl⟩
abbrev main_v74 : Ref sig .tc := ⟨.hbm, 107, rfl⟩
abbrev main_v75 : Ref sig .tc := ⟨.hbm, 108, rfl⟩
abbrev main_c_22 : Ref sig .tc := ⟨.hbm, 109, rfl⟩
abbrev main_v76 : Ref sig .tc := ⟨.hbm, 110, rfl⟩
abbrev main_v77 : Ref sig .tc := ⟨.hbm, 111, rfl⟩
abbrev main_c_23 : Ref sig .tc := ⟨.hbm, 112, rfl⟩
abbrev main_v78 : Ref sig .tc := ⟨.hbm, 113, rfl⟩
abbrev main_v79 : Ref sig .tc := ⟨.hbm, 114, rfl⟩
abbrev main_c_24 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_25 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_26 : Ref sig .tc := ⟨.hbm, 133, rfl⟩
abbrev main_v96 : Ref sig .tc := ⟨.hbm, 134, rfl⟩
abbrev main_v97 : Ref sig .tc := ⟨.hbm, 135, rfl⟩
abbrev main_c_27 : Ref sig .tc := ⟨.hbm, 136, rfl⟩
abbrev main_v98 : Ref sig .tc := ⟨.hbm, 137, rfl⟩
abbrev main_v99 : Ref sig .tc := ⟨.hbm, 138, rfl⟩
abbrev main_c_28 : Ref sig .tc := ⟨.hbm, 139, rfl⟩
abbrev main_v100 : Ref sig .tc := ⟨.hbm, 140, rfl⟩
abbrev main_v101 : Ref sig .tc := ⟨.hbm, 141, rfl⟩
abbrev main_c_29 : Ref sig .tc := ⟨.hbm, 142, rfl⟩
abbrev main_v102 : Ref sig .tc := ⟨.hbm, 143, rfl⟩
abbrev main_v103 : Ref sig .tc := ⟨.hbm, 144, rfl⟩
abbrev main_c_30 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_31 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_32 : Ref sig .tc := ⟨.hbm, 164, rfl⟩
abbrev main_v121 : Ref sig .tc := ⟨.hbm, 165, rfl⟩
abbrev main_v122 : Ref sig .tc := ⟨.hbm, 166, rfl⟩
abbrev main_c_33 : Ref sig .tc := ⟨.hbm, 167, rfl⟩
abbrev main_v123 : Ref sig .tc := ⟨.hbm, 168, rfl⟩
abbrev main_v124 : Ref sig .tc := ⟨.hbm, 169, rfl⟩
abbrev main_c_34 : Ref sig .tc := ⟨.hbm, 170, rfl⟩
abbrev main_v125 : Ref sig .tc := ⟨.hbm, 171, rfl⟩
abbrev main_v126 : Ref sig .tc := ⟨.hbm, 172, rfl⟩
abbrev main_c_35 : Ref sig .tc := ⟨.hbm, 173, rfl⟩
abbrev main_v127 : Ref sig .tc := ⟨.hbm, 174, rfl⟩
abbrev main_v128 : Ref sig .tc := ⟨.hbm, 175, rfl⟩
abbrev main_c_36 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_37 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_c_38 : Ref sig .tc := ⟨.hbm, 195, rfl⟩
abbrev main_v146 : Ref sig .tc := ⟨.hbm, 196, rfl⟩
abbrev main_v147 : Ref sig .tc := ⟨.hbm, 197, rfl⟩
abbrev main_c_39 : Ref sig .tc := ⟨.hbm, 198, rfl⟩
abbrev main_v148 : Ref sig .tc := ⟨.hbm, 199, rfl⟩
abbrev main_v149 : Ref sig .tc := ⟨.hbm, 200, rfl⟩
abbrev main_c_40 : Ref sig .tc := ⟨.hbm, 201, rfl⟩
abbrev main_v150 : Ref sig .tc := ⟨.hbm, 202, rfl⟩
abbrev main_v151 : Ref sig .tc := ⟨.hbm, 203, rfl⟩
abbrev main_c_41 : Ref sig .tc := ⟨.hbm, 204, rfl⟩
abbrev main_v152 : Ref sig .tc := ⟨.hbm, 205, rfl⟩
abbrev main_v153 : Ref sig .tc := ⟨.hbm, 206, rfl⟩
abbrev main_c_42 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_c_43 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_44 : Ref sig .tc := ⟨.hbm, 226, rfl⟩
abbrev main_v171 : Ref sig .tc := ⟨.hbm, 227, rfl⟩
abbrev main_v172 : Ref sig .tc := ⟨.hbm, 228, rfl⟩
abbrev main_c_45 : Ref sig .tc := ⟨.hbm, 229, rfl⟩
abbrev main_v173 : Ref sig .tc := ⟨.hbm, 230, rfl⟩
abbrev main_v174 : Ref sig .tc := ⟨.hbm, 231, rfl⟩
abbrev main_c_46 : Ref sig .tc := ⟨.hbm, 232, rfl⟩
abbrev main_v175 : Ref sig .tc := ⟨.hbm, 233, rfl⟩
abbrev main_v176 : Ref sig .tc := ⟨.hbm, 234, rfl⟩
abbrev main_c_47 : Ref sig .tc := ⟨.hbm, 235, rfl⟩
abbrev main_v177 : Ref sig .tc := ⟨.hbm, 236, rfl⟩
abbrev main_v178 : Ref sig .tc := ⟨.hbm, 237, rfl⟩
abbrev main_c_48 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_c_49 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_50 : Ref sig .tc := ⟨.hbm, 257, rfl⟩
abbrev main_v196 : Ref sig .tc := ⟨.hbm, 258, rfl⟩
abbrev main_v197 : Ref sig .tc := ⟨.hbm, 259, rfl⟩
abbrev main_c_51 : Ref sig .tc := ⟨.hbm, 260, rfl⟩
abbrev main_v198 : Ref sig .tc := ⟨.hbm, 261, rfl⟩
abbrev main_v199 : Ref sig .tc := ⟨.hbm, 262, rfl⟩
abbrev main_c_52 : Ref sig .tc := ⟨.hbm, 263, rfl⟩
abbrev main_v200 : Ref sig .tc := ⟨.hbm, 264, rfl⟩
abbrev main_v201 : Ref sig .tc := ⟨.hbm, 265, rfl⟩
abbrev main_c_53 : Ref sig .tc := ⟨.hbm, 266, rfl⟩
abbrev main_v202 : Ref sig .tc := ⟨.hbm, 267, rfl⟩
abbrev main_v203 : Ref sig .tc := ⟨.hbm, 268, rfl⟩
abbrev main_c_54 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_c_55 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_c_56 : Ref sig .tc := ⟨.hbm, 288, rfl⟩
abbrev main_v221 : Ref sig .tc := ⟨.hbm, 289, rfl⟩
abbrev main_v222 : Ref sig .tc := ⟨.hbm, 290, rfl⟩
abbrev main_c_57 : Ref sig .tc := ⟨.hbm, 291, rfl⟩
abbrev main_v223 : Ref sig .tc := ⟨.hbm, 292, rfl⟩
abbrev main_v224 : Ref sig .tc := ⟨.hbm, 293, rfl⟩
abbrev main_c_58 : Ref sig .tc := ⟨.hbm, 294, rfl⟩
abbrev main_v225 : Ref sig .tc := ⟨.hbm, 295, rfl⟩
abbrev main_v226 : Ref sig .tc := ⟨.hbm, 296, rfl⟩
abbrev main_c_59 : Ref sig .tc := ⟨.hbm, 297, rfl⟩
abbrev main_v227 : Ref sig .tc := ⟨.hbm, 298, rfl⟩
abbrev main_v228 : Ref sig .tc := ⟨.hbm, 299, rfl⟩
abbrev main_c_60 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_c_61 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_c_62 : Ref sig .tc := ⟨.hbm, 319, rfl⟩
abbrev main_v246 : Ref sig .tc := ⟨.hbm, 320, rfl⟩
abbrev main_v247 : Ref sig .tc := ⟨.hbm, 321, rfl⟩
abbrev main_c_63 : Ref sig .tc := ⟨.hbm, 322, rfl⟩
abbrev main_v248 : Ref sig .tc := ⟨.hbm, 323, rfl⟩
abbrev main_v249 : Ref sig .tc := ⟨.hbm, 324, rfl⟩
abbrev main_c_64 : Ref sig .tc := ⟨.hbm, 325, rfl⟩
abbrev main_v250 : Ref sig .tc := ⟨.hbm, 326, rfl⟩
abbrev main_v251 : Ref sig .tc := ⟨.hbm, 327, rfl⟩
abbrev main_c_65 : Ref sig .tc := ⟨.hbm, 328, rfl⟩
abbrev main_v252 : Ref sig .tc := ⟨.hbm, 329, rfl⟩
abbrev main_v253 : Ref sig .tc := ⟨.hbm, 330, rfl⟩
abbrev main_c_66 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_c_67 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩

abbrev nD : Nat := 1
abbrev τ : Topo := Topo.v7x

variable {F : FTy → Type} [FloatOps F]
-- ==== Proof.Half.lean ====
/- What a 16-bit word denotes when it is read as a float16 (`half`), and that each program's decoding of it is that
   number: the kernel assembles the bits of a binary32 (or, below the smallest normal, scales the integer), and the
   reference computes sign · 2^(exponent − 25) · (1024 + fraction) and its special cases. -/
module

public import Idealize.ShloMosaic.PureOps.Ideal
public import Idealize.ShloMosaic.Lib.Pipeline.Value

@[expose] public section

namespace Cert.Proof

open Idealize.ShloMosaic

/-- The extended real that the bits of a float16 denote. -/
noncomputable def half (w : BitVec 16) : EReal := Ideal.ieee 5 10 w

/-- The kernel's decoding of one word, operation by operation. -/
noncomputable def kernelHalf {F : FTy → Type} [FloatOps F] (w : BitVec 16) : F .f32 :=
  let v4 : BitVec 32 := w.signExtend 32
  let v8 := IntOp.andi (IntOp.shli .vector v4 16#32) 2147483648#32
  let v10 := IntOp.andi v4 32767#32
  let v17 := Scalar.select (IntOp.cmpi .sge v10 31744#32) 1879048192#32 939524096#32
  let v18 := IntOp.addi (IntOp.shli .vector v10 13#32) v17
  let v24 : F .f32 := Scalar.select (IntOp.cmpi .eq v8 0#32) (FloatOps.ofBits .f32 0x33800000#32) (FloatOps.ofBits .f32 0xB3800000#32)
  let v25 : F .f32 := FloatOps.mulf (FloatOps.sitofp .f32 v10) v24
  Scalar.select (IntOp.cmpi .slt v10 1024#32) v25 (FloatOps.ofBits .f32 (IntOp.ori v18 v8))

/-- The reference's decoding of one word, operation by operation. -/
noncomputable def refHalf {F : FTy → Type} [FloatOps F] (w : BitVec 16) : F .f32 :=
  let u : BitVec 32 := w.signExtend 32
  let sgn : F .f32 := Scalar.select (IntOp.cmpi .slt u 0#32) (FloatOps.ofBits .f32 0xBF800000#32) (FloatOps.ofBits .f32 0x3F800000#32)
  let e := IntOp.andi (IntOp.shrsi .host u 10#32) 31#32
  let f := IntOp.andi u 1023#32
  let x : F .f32 := FloatOps.sitofp .f32 f
  let sub := FloatOps.mulf x (FloatOps.ofBits .f32 0x33800000#32)
  let nrm := FloatOps.mulf (FloatOps.addf x (FloatOps.ofBits .f32 0x44800000#32))
    (FloatOps.hostPowf (FloatOps.ofBits .f32 0x40000000#32) (FloatOps.sitofp .f32 (IntOp.subi e 25#32)))
  let fin := Scalar.select (IntOp.cmpi .eq e 0#32) sub nrm
  let mag := Scalar.select (IntOp.cmpi .eq e 31#32) (FloatOps.ofBits .f32 0x7F800000#32) fin
  Scalar.select (IntOp.andi (IntOp.cmpi .eq e 31#32) (IntOp.cmpi .ne f 0#32)) (FloatOps.ofBits .f32 0x7FC00000#32)
    (FloatOps.mulf sgn mag)

/-! ### The fields of the word -/

/-- The sign of the widened word, moved to the top. -/
theorem ext_sign (w : BitVec 16) :
    ((w.signExtend 32 <<< 16) &&& 2147483648#32) = if w.getLsbD 15 then 2147483648#32 else 0#32 := by
  cases h : w.getLsbD 15 <;> ext i hi <;> rw [BitVec.getLsbD_eq_getElem (by omega)] at h <;>
    interval_cases i <;> simp [h, BitVec.getElem_signExtend, BitVec.getElem_shiftLeft]

/-- The lower fifteen bits of the widened word. -/
theorem ext_mag (w : BitVec 16) : (w.signExtend 32 &&& 32767#32) = (w.extractLsb' 0 15).setWidth 32 := by
  ext i hi
  interval_cases i <;> simp [BitVec.getElem_signExtend]

/-- The fraction field of the widened word. -/
theorem ext_frac (w : BitVec 16) : (w.signExtend 32 &&& 1023#32) = (w.extractLsb' 0 10).setWidth 32 := by
  ext i hi
  interval_cases i <;> simp [BitVec.getElem_signExtend]

/-- The exponent field of the widened word. -/
theorem ext_exp (w : BitVec 16) :
    ((w.signExtend 32).sshiftRight' 10#32 &&& 31#32) = (w.extractLsb' 10 5).setWidth 32 := by
  ext i hi
  interval_cases i <;> simp [BitVec.getElem_signExtend, BitVec.getElem_sshiftRight]

/-- The widened word is negative exactly when the sign bit is set. -/
theorem slt_zero (w : BitVec 16) : (w.signExtend 32).slt 0#32 = w.getLsbD 15 := by
  simp [BitVec.slt_zero_eq_msb, BitVec.msb_eq_getLsbD_last, BitVec.getElem_signExtend]

/-- The magnitude's value is the exponent field times 1024 and the fraction field. -/
theorem mag_toNat (w : BitVec 16) :
    (w.extractLsb' 0 15).toNat = 1024 * (w.extractLsb' 10 5).toNat + (w.extractLsb' 0 10).toNat := by
  simp only [BitVec.extractLsb'_toNat, Nat.shiftRight_eq_div_pow]
  omega

/-! ### The kernel's binary32 word, and its fields -/

/-- The binary32 word assembled from magnitude `M`, exponent offset `C` and sign `s`: its sign, exponent and
    fraction. -/
theorem word_fields (M C : BitVec 32) (s : Bool) (hM : M.toNat < 32768) (c : Nat) (hC : C.toNat = c * 2 ^ 23)
    (hc : c + 31 < 256) :
    let W := (M <<< 13 + C) ||| (if s then 2147483648#32 else 0#32)
    (W.extractLsb' 31 1 == 1#1) = s ∧ (W.extractLsb' 23 8).toNat = M.toNat / 1024 + c
      ∧ (W.extractLsb' 0 23).toNat = M.toNat % 1024 * 8192 := by
  intro W
  have hs : (M <<< 13 + C).toNat = M.toNat * 8192 + c * 2 ^ 23 := by
    rw [BitVec.toNat_add, BitVec.toNat_shiftLeft, hC, Nat.shiftLeft_eq]
    omega
  have hlow : W.extractLsb' 0 31 = (M <<< 13 + C).extractLsb' 0 31 := by
    show ((M <<< 13 + C) ||| (if s then 2147483648#32 else 0#32)).extractLsb' 0 31 = _
    rw [BitVec.extractLsb'_or]
    cases s <;> simp
  have hW : W.toNat % 2 ^ 31 = M.toNat * 8192 + c * 2 ^ 23 := by
    have := congrArg BitVec.toNat hlow
    simp only [BitVec.extractLsb'_toNat, Nat.shiftRight_zero, hs] at this
    omega
  have hmsb : W.getLsbD 31 = s := by
    show ((M <<< 13 + C) ||| (if s then 2147483648#32 else 0#32)).getLsbD 31 = s
    have : (M <<< 13 + C).getLsbD 31 = false := by
      rw [BitVec.getLsbD, hs, Nat.testBit_eq_decide_div_mod_eq]
      simp only [decide_eq_false_iff_not]
      omega
    rw [BitVec.getLsbD_or, this]
    cases s <;> decide
  refine ⟨?_, ?_, ?_⟩
  · rw [← hmsb, Bool.eq_iff_iff, beq_iff_eq, BitVec.toNat_eq]
    simp only [BitVec.extractLsb'_toNat, Nat.shiftRight_eq_div_pow, BitVec.getLsbD,
      Nat.testBit_eq_decide_div_mod_eq, decide_eq_true_eq]
    simp
  · simp only [BitVec.extractLsb'_toNat, Nat.shiftRight_eq_div_pow]
    omega
  · simp only [BitVec.extractLsb'_toNat, Nat.shiftRight_eq_div_pow]
    omega

/-! ### The constants -/

/-- The binary32 word of `2 ^ -24`. -/
theorem bits_p24 : Ideal.ofBits .f32 0x33800000#32 = (((2 : ℝ) ^ (-24 : ℤ) : ℝ) : EReal) := by
  simp [Ideal.ofBits, Ideal.ieee, -EReal.coe_mul]; norm_num
/-- The binary32 word of `-(2 ^ -24)`. -/
theorem bits_n24 : Ideal.ofBits .f32 0xB3800000#32 = ((-(2 : ℝ) ^ (-24 : ℤ) : ℝ) : EReal) := by
  simp [Ideal.ofBits, Ideal.ieee, -EReal.coe_mul]; norm_num
/-- The binary32 word of one. -/
theorem bits_one : Ideal.ofBits .f32 0x3F800000#32 = ((1 : ℝ) : EReal) := by
  simp [Ideal.ofBits, Ideal.ieee, -EReal.coe_mul]; norm_num
/-- The binary32 word of minus one. -/
theorem bits_neg_one : Ideal.ofBits .f32 0xBF800000#32 = ((-1 : ℝ) : EReal) := by
  simp [Ideal.ofBits, Ideal.ieee, -EReal.coe_mul]; norm_num
/-- The binary32 word of 1024. -/
theorem bits_1024 : Ideal.ofBits .f32 0x44800000#32 = ((1024 : ℝ) : EReal) := by
  simp [Ideal.ofBits, Ideal.ieee, -EReal.coe_mul]; norm_num
/-- The binary32 word of two. -/
theorem bits_two : Ideal.ofBits .f32 0x40000000#32 = ((2 : ℝ) : EReal) := by
  simp [Ideal.ofBits, Ideal.ieee, -EReal.coe_mul]; norm_num
/-- The binary32 word of infinity. -/
theorem bits_inf : Ideal.ofBits .f32 0x7F800000#32 = ⊤ := by
  simp [Ideal.ofBits, Ideal.ieee]
/-- The binary32 word that is not a number, as the extended reals read it. -/
theorem bits_nan : Ideal.ofBits .f32 0x7FC00000#32 = ⊥ := by
  simp [Ideal.ofBits, Ideal.ieee]

/-! ### Selections and comparisons of words -/

/-- Selection by a condition. -/
theorem select_ofBool {α : Type} (b : Bool) (x y : α) : Scalar.select (BitVec.ofBool b) x y = if b then x else y := by
  cases b <;> rfl

/-- On small words the signed comparison is the one of the numbers. -/
theorem slt_small (x y : BitVec 32) (hx : x.toNat < 2 ^ 31) (hy : y.toNat < 2 ^ 31) :
    x.slt y = decide (x.toNat < y.toNat) := by
  rw [BitVec.slt_eq_decide, BitVec.toInt_eq_toNat_of_lt (by omega), BitVec.toInt_eq_toNat_of_lt (by omega)]
  simp

/-- On small words the signed comparison is the one of the numbers. -/
theorem sle_small (x y : BitVec 32) (hx : x.toNat < 2 ^ 31) (hy : y.toNat < 2 ^ 31) :
    x.sle y = decide (x.toNat ≤ y.toNat) := by
  rw [BitVec.sle_eq_decide, BitVec.toInt_eq_toNat_of_lt (by omega), BitVec.toInt_eq_toNat_of_lt (by omega)]
  simp

/-- A small word read as a signed number is the number. -/
theorem toInt_small (x : BitVec 32) (hx : x.toNat < 2 ^ 31) : x.toInt = x.toNat :=
  BitVec.toInt_eq_toNat_of_lt (by omega)

/-- `half` with the word's sign bit, exponent and fraction named. -/
theorem half_eq (w : BitVec 16) (s : Bool) (e f : Nat) (hs : w.getLsbD 15 = s) (he : (w.extractLsb' 10 5).toNat = e)
    (hf : (w.extractLsb' 0 10).toNat = f) :
    half w = if e = 31 then (if f = 0 then (if s then ⊥ else ⊤) else ⊥)
      else if e = 0 then (((if s then -1 else 1) * f * (2 : ℝ) ^ (-24 : ℤ) : ℝ) : EReal)
      else (((if s then -1 else 1) * (1024 + f : Nat) * (2 : ℝ) ^ ((e : ℤ) - 25) : ℝ) : EReal) := by
  have hn : (w.extractLsb' 15 1 == 1#1) = s := by
    rw [← hs, Bool.eq_iff_iff, beq_iff_eq, BitVec.toNat_eq]
    simp only [BitVec.extractLsb'_toNat, Nat.shiftRight_eq_div_pow, BitVec.getLsbD,
      Nat.testBit_eq_decide_div_mod_eq, decide_eq_true_eq]
    simp
  unfold half Ideal.ieee
  simp only [he, hf, hn]
  have h25 : ((e : ℤ) - (2 ^ (5 - 1) - 1) - (10 : ℕ)) = (e : ℤ) - 25 := by norm_num; ring
  rw [h25]
  norm_num

/-- **The kernel's decoding of a word is the float16 it spells.** -/
theorem kernelHalf_eq (w : BitVec 16) : kernelHalf (F := Ideal) w = half w := by
  obtain ⟨s, hs⟩ : ∃ s, w.getLsbD 15 = s := ⟨_, rfl⟩
  obtain ⟨e, he⟩ : ∃ e, (w.extractLsb' 10 5).toNat = e := ⟨_, rfl⟩
  obtain ⟨f, hf⟩ : ∃ f, (w.extractLsb' 0 10).toNat = f := ⟨_, rfl⟩
  have he' : e < 32 := he ▸ (w.extractLsb' 10 5).isLt
  have hf' : f < 1024 := hf ▸ (w.extractLsb' 0 10).isLt
  obtain ⟨M, hM⟩ : ∃ M : BitVec 32, (w.extractLsb' 0 15).setWidth 32 = M := ⟨_, rfl⟩
  have hMn : M.toNat = 1024 * e + f := by
    rw [← hM, BitVec.toNat_setWidth, mag_toNat, he, hf]
    omega
  rw [half_eq w s e f hs he hf]
  unfold kernelHalf
  simp only [IntOp.shli, IntOp.andi, IntOp.ori, IntOp.addi, IntOp.cmpi, select_ofBool]
  simp only [BitVec.shiftLeft_eq', show (16#32 : BitVec 32).toNat = 16 from rfl,
    show (13#32 : BitVec 32).toNat = 13 from rfl, Nat.reduceLT, if_true]
  rw [ext_sign, ext_mag, hM, hs, sle_small _ _ (by decide) (by omega), slt_small _ _ (by omega) (by decide)]
  simp only [show (31744#32 : BitVec 32).toNat = 31744 from rfl, show (1024#32 : BitVec 32).toNat = 1024 from rfl,
    Ideal.ofBits_def, decide_eq_true_eq]
  by_cases h0 : e = 0
  · rw [if_pos (show M.toNat < 1024 by omega), if_neg (show e ≠ 31 by omega), if_pos h0]
    show (((M.toInt : ℝ) : EReal)) * _ = _
    rw [toInt_small _ (by omega), hMn, h0]
    have z0 : (0#32 == 0#32) = true := rfl
    have z1 : (2147483648#32 == 0#32) = false := rfl
    cases s <;> simp only [Bool.false_eq_true, if_false, if_true, z0, z1, bits_p24, bits_n24] <;>
      rw [← EReal.coe_mul] <;> simp
  · rw [if_neg (show ¬ M.toNat < 1024 by omega)]
    show Ideal.ieee 8 23 _ = _
    by_cases h31 : e = 31
    · obtain ⟨a, b, c⟩ := word_fields M 1879048192#32 s (by omega) 224 (by decide) (by decide)
      rw [if_pos (show 31744 ≤ M.toNat by omega), if_pos h31]
      unfold Ideal.ieee
      rw [a, b, c, if_pos (by omega)]
      simp only [show M.toNat % 1024 * 8192 = 0 ↔ f = 0 by omega]
    · obtain ⟨a, b, c⟩ := word_fields M 939524096#32 s (by omega) 112 (by decide) (by decide)
      rw [if_neg (show ¬ 31744 ≤ M.toNat by omega), if_neg h31, if_neg h0]
      unfold Ideal.ieee
      rw [a, b, c, if_neg (by omega), if_neg (by omega), show M.toNat / 1024 = e by omega, show M.toNat % 1024 = f by omega]
      congr 1
      have : ((e + 112 : ℕ) : ℤ) - (2 ^ (8 - 1) - 1) - (23 : ℕ) = ((e : ℤ) - 25) + (-13) := by push_cast; norm_num; ring
      rw [this, zpow_add₀ (by norm_num)]
      push_cast
      norm_num
      ring_nf

/-- **The reference's decoding of a word is the float16 it spells.** -/
theorem refHalf_eq (w : BitVec 16) : refHalf (F := Ideal) w = half w := by
  obtain ⟨s, hs⟩ : ∃ s, w.getLsbD 15 = s := ⟨_, rfl⟩
  obtain ⟨e, he⟩ : ∃ e, (w.extractLsb' 10 5).toNat = e := ⟨_, rfl⟩
  obtain ⟨f, hf⟩ : ∃ f, (w.extractLsb' 0 10).toNat = f := ⟨_, rfl⟩
  have he' : e < 32 := he ▸ (w.extractLsb' 10 5).isLt
  have hf' : f < 1024 := hf ▸ (w.extractLsb' 0 10).isLt
  obtain ⟨E, hE⟩ : ∃ E : BitVec 32, (w.extractLsb' 10 5).setWidth 32 = E := ⟨_, rfl⟩
  obtain ⟨T, hT⟩ : ∃ T : BitVec 32, (w.extractLsb' 0 10).setWidth 32 = T := ⟨_, rfl⟩
  have hEn : E.toNat = e := by rw [← hE, BitVec.toNat_setWidth, he]; omega
  have hTn : T.toNat = f := by rw [← hT, BitVec.toNat_setWidth, hf]; omega
  rw [half_eq w s e f hs he hf]
  unfold refHalf
  simp only [IntOp.shrsi, IntOp.andi, IntOp.subi, IntOp.cmpi]
  simp only [show (10#32 : BitVec 32).toNat < 32 from by decide, if_true]
  rw [ext_exp, ext_frac, slt_zero, hE, hT, hs]
  have hand : ∀ a b : Bool, BitVec.ofBool a &&& BitVec.ofBool b = BitVec.ofBool (a && b) := by decide
  simp only [hand, select_ofBool]
  have q31 : (E == 31#32) = decide (e = 31) := by rw [Bool.eq_iff_iff, beq_iff_eq, BitVec.toNat_eq]; simp [hEn]
  have q0 : (E == 0#32) = decide (e = 0) := by rw [Bool.eq_iff_iff, beq_iff_eq, BitVec.toNat_eq]; simp [hEn]
  have t0 : (T != 0#32) = decide (f ≠ 0) := by
    rw [Bool.eq_iff_iff, bne_iff_ne, ne_eq, BitVec.toNat_eq]; simp [hTn]
  have hE25 : (E - 25#32).toInt = (e : ℤ) - 25 := by
    rw [BitVec.toInt_sub, toInt_small _ (by omega), hEn]
    simp
    rw [Int.bmod_eq_of_le] <;> omega
  have hTi : T.toInt = (f : ℤ) := by rw [toInt_small _ (by omega), hTn]
  rw [q31, q0, t0]
  simp only [Ideal.ofBits_def, bits_p24, bits_one, bits_neg_one, bits_1024, bits_two, bits_inf, bits_nan, Ideal.mulf_def,
    Ideal.addf_def, Bool.and_eq_true, decide_eq_true_eq]
  have hp : FloatOps.hostPowf (F := Ideal) (φ := .f32) ((2 : ℝ) : EReal) (FloatOps.sitofp .f32 (E - 25#32))
      = (((2 : ℝ) ^ ((e : ℤ) - 25) : ℝ) : EReal) := by
    show Ideal.pow ((2 : ℝ) : EReal) (((E - 25#32).toInt : ℝ) : EReal) = _
    rw [hE25, Ideal.pow_coe_coe]
    congr 1
    exact Real.rpow_intCast 2 _
  have hx : FloatOps.sitofp (F := Ideal) .f32 T = ((f : ℝ) : EReal) := by
    show ((T.toInt : ℝ) : EReal) = _
    rw [hTi]; simp
  rw [hp, hx]
  by_cases h31 : e = 31
  · simp only [h31, true_and, if_true, ne_eq]
    by_cases h : f = 0
    · simp only [h, not_true_eq_false, if_false, if_true]
      cases s
      · simp
      · simp [EReal.coe_mul_top_of_neg]
    · simp [h]
  · simp only [h31, false_and, if_false]
    by_cases h0 : e = 0
    · simp only [h0, if_true]
      cases s <;> simp only [Bool.false_eq_true, if_false, if_true, ← EReal.coe_mul, mul_assoc]
    · simp only [h0, if_false]
      cases s <;> simp only [Bool.false_eq_true, if_false, if_true, ← EReal.coe_mul, ← EReal.coe_add, mul_assoc] <;>
        push_cast <;> rw [add_comm (f : EReal)]

end Cert.Proof
-- ==== Proof.Bits.lean ====
module

public import proofs.«01_k».proof.Proof.Half

/-!
Facts about single words. A weight's quant is three bits: two from a byte of the two-bit quants and
one from a byte of the masks. The kernel assembles, in each nibble of a word, twice that quant; a
group's scale is six bits gathered from two bytes, by each program in its own way.
-/

@[expose] public section

namespace Cert.Proof

open Idealize.ShloMosaic

/-- The quant that a byte `q` of two-bit fields and a mask byte `m` give for half `h` and field `j`:
    field `j` of `q`, with bit `4 h + j` of `m` above it, less four. -/
def quant (q m : BitVec 8) (h : Fin 2) (j : Fin 4) : BitVec 32 :=
  ((q.setWidth 32).sshiftRight (2 * j.val) &&& 3#32)
    + 4#32 * ((m.setWidth 32).sshiftRight (4 * h.val + j.val) &&& 1#32) - 4#32

/-- The six-bit scale of group `8 h + f`: four bits from nibble `h` of byte `lo`, two from byte `hi`. -/
def scaleBits (lo hi : BitVec 8) (h : Fin 2) (f : Fin 8) : BitVec 32 :=
  (if h = 0 then lo.setWidth 32 &&& 15#32 else (lo.setWidth 32).sshiftRight 4)
    ||| (((hi.setWidth 32).sshiftRight (2 * ((8 * h.val + f.val) / 4)) &&& 3#32) <<< 4)

/-! ### Nibbles -/

/-- The bits in which the high nibbles of `lo` and the low nibbles of `hi` differ. -/
def swappedWord (lo hi : BitVec 32) : BitVec 32 := (lo ^^^ (hi <<< 4)) &&& 4042322160#32

/-- Field `j` as the kernel assembles it from a low word, a high word and an inverted mask word. -/
def fieldWord (lo hi hm : BitVec 32) (j : Fin 4) : BitVec 32 :=
  match j with
  | 0 => (((lo ^^^ swappedWord lo hi) &&& 858993459#32) ||| ((hm <<< 2) &&& 1145324612#32)) <<< 1
  | 1 => (((lo ^^^ swappedWord lo hi) >>> 1) &&& 1717986918#32) ||| ((hm <<< 2) &&& 2290649224#32)
  | 2 => (((hi ^^^ (swappedWord lo hi >>> 4)) &&& 858993459#32) ||| (hm &&& 1145324612#32)) <<< 1
  | 3 => (((hi ^^^ (swappedWord lo hi >>> 4)) >>> 1) &&& 1717986918#32) ||| (hm &&& 2290649224#32)

/-- Nibble `k` of a word, as a signed number. -/
def nibble (w : BitVec 32) (k : Nat) : BitVec 32 := (w <<< (28 - 4 * k)).sshiftRight 28

/-- Its bits: those of the nibble, the last one repeated. -/
theorem nibble_bit (w : BitVec 32) (k : Nat) (hk : k < 8) (i : Nat) (hi : i < 32) :
    (nibble w k).getLsbD i = w.getLsbD (4 * k + min i 3) := by
  unfold nibble
  rw [BitVec.getLsbD_sshiftRight]
  by_cases h3 : i < 3
  · have e : 28 + i - (28 - 4 * k) = 4 * k + min i 3 := by omega
    have a : 28 + i < 32 := by omega
    have b : ¬ 28 + i < 28 - 4 * k := by omega
    have c : ¬ 32 ≤ i := by omega
    simp [a, b, c, e]
    rw [BitVec.getLsbD_eq_getElem]
  · by_cases h4 : i = 3
    · subst h4
      have e : 31 - (28 - 4 * k) = 4 * k + min 3 3 := by omega
      have b : ¬ 31 < 28 - 4 * k := by omega
      simp [b, e]
      rw [BitVec.getLsbD_eq_getElem]
    · have a : ¬ 28 + i < 32 := by omega
      have c : ¬ 32 ≤ i := by omega
      have e : 31 - (28 - 4 * k) = 4 * k + min i 3 := by omega
      have b : ¬ 31 < 28 - 4 * k := by omega
      simp [a, c, BitVec.msb_eq_getLsbD_last, b, e]
      rw [BitVec.getLsbD_eq_getElem]

/-- Bit 0 of a field's nibble is clear. -/
theorem field_bit0 (lo hi hm : BitVec 32) (j : Fin 4) (k : Nat) (hk : k < 8) :
    (fieldWord lo hi hm j).getLsbD (4 * k) = false := by
  fin_cases j <;> interval_cases k <;> simp [fieldWord, swappedWord]

/-- Bits 1 and 2 of a field's nibble are the two bits of field `j`, of the low word's byte at an even
    nibble and of the high word's at an odd one. -/
theorem field_bit12 (lo hi hm : BitVec 32) (j : Fin 4) (k : Nat) (hk : k < 8) (u : Fin 2) :
    (fieldWord lo hi hm j).getLsbD (4 * k + 1 + u.val)
      = (if k % 2 = 0 then lo else hi).getLsbD (8 * (k / 2) + (2 * j.val + u.val)) := by
  fin_cases j <;> fin_cases u <;> interval_cases k <;> simp [fieldWord, swappedWord] <;>
    rw [Bool.xor_left_comm, Bool.xor_self, Bool.xor_false]

/-- Bit 3 of a field's nibble is the inverted mask word's bit `4 k + j`. -/
theorem field_bit3 (lo hi hm : BitVec 32) (j : Fin 4) (k : Nat) (hk : k < 8) :
    (fieldWord lo hi hm j).getLsbD (4 * k + 3) = hm.getLsbD (4 * k + j.val) := by
  fin_cases j <;> interval_cases k <;> simp [fieldWord, swappedWord]

/-- The signed nibble with low bit clear, middle bits `b1` and `b2` and sign `b3`. -/
def nibbleOf (b1 b2 b3 : Bool) : BitVec 32 :=
  (if b1 then 2#32 else 0#32) + (if b2 then 4#32 else 0#32) - (if b3 then 8#32 else 0#32)

/-- The bits of a sign-extended nibble: the bits it is built from, then its sign. -/
theorem nibbleOf_bit (b1 b2 b3 : Bool) (i : Nat) (hi : i < 32) :
    (nibbleOf b1 b2 b3).getLsbD i = if i = 0 then false else if i = 1 then b1 else if i = 2 then b2 else b3 := by
  cases b1 <;> cases b2 <;> cases b3 <;> revert i <;> decide

/-- The quant with field bits `c1` and `c2` and mask bit `c3`. -/
def quantOf (c1 c2 c3 : Bool) : BitVec 32 :=
  (if c1 then 1#32 else 0#32) + (if c2 then 2#32 else 0#32) + 4#32 * (if c3 then 1#32 else 0#32) - 4#32

/-- The signed nibble, its third bit inverted, is twice the quant. -/
theorem nibbleOf_toInt (c1 c2 c3 : Bool) : (nibbleOf c1 c2 (!c3)).toInt = 2 * (quantOf c1 c2 c3).toInt := by
  cases c1 <;> cases c2 <;> cases c3 <;> decide

/-- The lowest two bits of a word, by cases. -/
theorem two_bits (b : BitVec 32) :
    b &&& 3#32 = (if b.getLsbD 0 then 1#32 else 0#32) + (if b.getLsbD 1 then 2#32 else 0#32) := by
  have h : b &&& 3#32 = (if b.getLsbD 0 then 1#32 else 0#32) ||| (if b.getLsbD 1 then 2#32 else 0#32) := by
    ext i hi
    rw [BitVec.getLsbD_eq_getElem (by omega), BitVec.getLsbD_eq_getElem (by omega)]
    cases h0 : b[0] <;> cases h1 : b[1] <;> interval_cases i <;> simp [h0, h1]
  rw [h]
  cases b.getLsbD 0 <;> cases b.getLsbD 1 <;> decide

/-- The lowest bit of a word, by cases. -/
theorem one_bit (b : BitVec 32) : b &&& 1#32 = if b.getLsbD 0 then 1#32 else 0#32 := by
  ext i hi
  rw [BitVec.getLsbD_eq_getElem (by omega)]
  cases h0 : b[0] <;> interval_cases i <;> simp [h0]

/-- A bit of a widened and shifted byte is a bit of the byte. -/
theorem byte_shift_bit (q : BitVec 8) (s u : Nat) (h : s + u < 8) :
    ((q.setWidth 32).sshiftRight s).getLsbD u = q.getLsbD (s + u) := by
  rw [BitVec.getLsbD_sshiftRight]
  have a : ¬ 32 ≤ u := by omega
  have b : s + u < 32 := by omega
  simp [a, b]

/-- The quant is the one its three bits spell. -/
theorem quant_eq (q m : BitVec 8) (h : Fin 2) (j : Fin 4) :
    quant q m h j = quantOf (q.getLsbD (2 * j.val)) (q.getLsbD (2 * j.val + 1)) (m.getLsbD (4 * h.val + j.val)) := by
  have h1 := j.isLt
  have h2 := h.isLt
  unfold quant quantOf
  rw [two_bits, one_bit, byte_shift_bit _ _ _ (by omega), byte_shift_bit _ _ _ (by omega),
    byte_shift_bit _ _ _ (by omega)]
  simp only [Nat.add_zero]

/-- The kernel's nibble is twice the quant. `q` is byte `k / 2` of the low word (`k` even) or of the
    high word (`k` odd), and `m` that byte of the mask word. -/
theorem nibble_toInt (lo hi hm : BitVec 32) (q m : BitVec 8) (j : Fin 4) (k : Nat) (hk : k < 8)
    (hq : ∀ i, i < 8 → q.getLsbD i = (if k % 2 = 0 then lo else hi).getLsbD (8 * (k / 2) + i))
    (hm' : ∀ i, i < 8 → m.getLsbD i = hm.getLsbD (8 * (k / 2) + i)) :
    (nibble (fieldWord lo hi (hm ^^^ 4294967295#32) j) k).toInt
      = 2 * (quant q m ⟨k % 2, Nat.mod_lt _ (by decide)⟩ j).toInt := by
  have hj := j.isLt
  rw [quant_eq, ← nibbleOf_toInt]
  congr 1
  apply BitVec.eq_of_getLsbD_eq
  intro i hi'
  rw [nibble_bit _ _ hk _ hi', nibbleOf_bit _ _ _ _ hi']
  by_cases h0 : i = 0
  · subst h0
    simpa using field_bit0 lo hi (hm ^^^ 4294967295#32) j k hk
  · by_cases h1 : i = 1
    · subst h1
      rw [if_neg (by decide), if_pos rfl, hq _ (by omega)]
      exact field_bit12 lo hi (hm ^^^ 4294967295#32) j k hk 0
    · by_cases h2 : i = 2
      · subst h2
        rw [if_neg (by decide), if_neg (by decide), if_pos rfl, hq _ (by omega)]
        exact field_bit12 lo hi (hm ^^^ 4294967295#32) j k hk 1
      · rw [if_neg h0, if_neg h1, if_neg h2, show min i 3 = 3 by omega, field_bit3 _ _ _ _ _ hk,
          hm' _ (by show 4 * (k % 2) + j.val < 8; omega)]
        have e : 8 * (k / 2) + (4 * (k % 2) + j.val) = 4 * k + j.val := by omega
        show _ = !hm.getLsbD (8 * (k / 2) + (4 * (k % 2) + j.val))
        rw [e, BitVec.getLsbD_xor, show (4294967295#32 : BitVec 32) = BitVec.allOnes 32 from rfl,
          BitVec.getLsbD_allOnes, decide_eq_true (show 4 * k + j.val < 32 by omega), Bool.xor_true]

/-! ### Scales -/

/-- A widened byte is not negative. -/
theorem msb_byte (b : BitVec 8) : (b.setWidth 32).msb = false := by
  rw [BitVec.msb_eq_getLsbD_last]
  simp

/-- A byte shifted right arithmetically, as a word, is shifted right logically. -/
theorem byte_sshiftRight (b : BitVec 8) (s : Nat) : (b.setWidth 32).sshiftRight s = b.setWidth 32 >>> s :=
  BitVec.sshiftRight_eq_of_msb_false (msb_byte b)

/-- The kernel's gathering of the scale held in a byte's low nibble. -/
theorem scale_low (lo hi : BitVec 8) (f : Fin 8) :
    ((lo.setWidth 32 &&& 15#32) ||| (((hi.setWidth 32 >>> (2 * (f.val / 4))) <<< 4) &&& 48#32))
      = scaleBits lo hi 0 f := by
  unfold scaleBits
  rw [if_pos rfl, byte_sshiftRight]
  congr 1
  fin_cases f <;> ext i h <;> interval_cases i <;> simp

/-- The kernel's gathering of the scale held in a byte's high nibble. -/
theorem scale_high (lo hi : BitVec 8) (f : Fin 8) :
    ((lo.setWidth 32 >>> 4) ||| ((hi.setWidth 32 >>> (2 * (f.val / 4))) &&& 48#32))
      = scaleBits lo hi 1 f := by
  unfold scaleBits
  rw [if_neg (by decide), byte_sshiftRight, byte_sshiftRight]
  congr 1
  fin_cases f <;> ext i h <;> interval_cases i <;> simp

end Cert.Proof
-- ==== Proof.Spec.lean ====
module

public import proofs.«01_k».proof.Proof.Bits
public import Idealize.ShloMosaic.Lib.ValueIdxCore

/-!
The matrix product both programs compute, written once over the five arguments: the activations, the
high-bit masks, the two-bit quants, the packed scales and the super-scale words.
-/

@[expose] public section

noncomputable section

namespace Cert.Proof
open Idealize.ShloMosaic Idealize.ShloMosaic.ValueIdx
open scoped BigOperators

/-- The scale of group `8 h + f`: the super-scale times the six-bit scale less 32. -/
def scaleVal (lo hi : BitVec 8) (d : BitVec 16) (h : Fin 2) (f : Fin 8) : EReal :=
  half d * (((scaleBits lo hi h f - 32#32).toInt : ℝ) : EReal)

/-- A dequantized weight, from its quant byte, mask byte, two scale bytes and super-scale word. -/
def weightOf (q m lo hi : BitVec 8) (d : BitVec 16) (h : Fin 2) (j : Fin 4) (f : Fin 8) : EReal :=
  (((quant q m h j).toInt : ℝ) : EReal) * scaleVal lo hi d h f

/-- The number, among the eight of a half, of the scale group of byte `l` in field `j`. -/
def groupOf (j : Fin 4) (l : Fin 32) : Fin 8 := ⟨2 * j.val + l.val / 16, by omega⟩

/-- Byte `f` of the packed scales. -/
def lowerByte (f : Fin 8) : Fin 12 := ⟨f.val, by omega⟩

/-- The byte with the upper bits of the scales of groups `f` and `8 + f`. -/
def upperByte (f : Fin 8) : Fin 12 := ⟨8 + f.val % 4, by omega⟩

/-- Byte `l` of half `h` of the quants. -/
def quantByte (h : Fin 2) (l : Fin 32) : Fin 64 := ⟨32 * h.val + l.val, by omega⟩

/-- Column `256 b + 128 h + 32 j + l` of the activations. -/
def actIndex (b : Fin 14) (h : Fin 2) (j : Fin 4) (l : Fin 32) : Fin 3584 :=
  ⟨256 * b.val + 128 * h.val + 32 * j.val + l.val, by omega⟩

/-- One product of the sum: an activation times its weight. -/
def term (x : (⟨3, ![1, 128, 3584]⟩ : Shape).Idx → EReal) (hm : (⟨3, ![14, 18944, 32]⟩ : Shape).Idx → BitVec 8)
    (qs : (⟨3, ![14, 18944, 64]⟩ : Shape).Idx → BitVec 8) (sc : (⟨3, ![14, 18944, 12]⟩ : Shape).Idx → BitVec 8)
    (d : (⟨2, ![14, 18944]⟩ : Shape).Idx → BitVec 16) (s : Fin 128) (n : Fin 18944) (b : Fin 14) (h : Fin 2)
    (j : Fin 4) (l : Fin 32) : EReal :=
  x (ix3 0 s (actIndex b h j l)) * weightOf (qs (ix3 b n (quantByte h l))) (hm (ix3 b n l))
    (sc (ix3 b n (lowerByte (groupOf j l)))) (sc (ix3 b n (upperByte (groupOf j l)))) (d (ix2 b n)) h j (groupOf j l)

/-- Entry `(s, n)` of the product. -/
def entry (x : (⟨3, ![1, 128, 3584]⟩ : Shape).Idx → EReal) (hm : (⟨3, ![14, 18944, 32]⟩ : Shape).Idx → BitVec 8)
    (qs : (⟨3, ![14, 18944, 64]⟩ : Shape).Idx → BitVec 8) (sc : (⟨3, ![14, 18944, 12]⟩ : Shape).Idx → BitVec 8)
    (d : (⟨2, ![14, 18944]⟩ : Shape).Idx → BitVec 16) (s : Fin 128) (n : Fin 18944) : EReal :=
  ∑ b : Fin 14, ∑ h : Fin 2, ∑ j : Fin 4, ∑ l : Fin 32, term x hm qs sc d s n b h j l

end Cert.Proof
end
-- ==== Proof.Body.lean ====
module

public import proofs.«01_k».proof.Proof.Gen.KernelIdeal.Value
public import proofs.«01_k».proof.Proof.Spec
public import Idealize.ShloMosaic.Lib.Pipeline.Value

/-!
What one grid point of the kernel computes, as pure functions of its five input blocks and of the
permuted activations it carries in scratch. One definition per step, stated once for every weight
block, scale row, two-bit field and half of a field. `Opened.lean` shows that the printed kernel
computes exactly these.
-/

@[expose] public section

noncomputable section

namespace Cert.KernelIdeal.Body
open Cert.KernelIdeal Cert.KernelIdeal.Gen Idealize.ShloMosaic
open Cert.Proof (lowerByte upperByte)
variable {F : FTy → Type} [FloatOps F]

/-! ### Boxes -/

/-- Columns `256 b … 256 b + 255` of the activations. -/
def actBox (b : Fin 14) : Rect S128x3584 :=
  Rect.unit (s := S128x3584) ![0, 256 * b.val] S128x256.size (by
    intro a; have := b.isLt; fin_cases a <;> simp [S128x256, S128x3584] <;> omega)

/-- Weight block `b` of the high-bit masks. -/
def maskBox (b : Fin 14) : Rect S14x32x512 :=
  Rect.unit (s := S14x32x512) ![b.val, 0, 0] S1x32x512.size (by
    intro a; have := b.isLt; fin_cases a <;> simp [S1x32x512, S14x32x512] <;> omega)

/-- Bytes `0 … 31` of weight block `b` of the two-bit quants. -/
def lowBox (b : Fin 14) : Rect S14x64x512 :=
  Rect.unit (s := S14x64x512) ![b.val, 0, 0] S1x32x512.size (by
    intro a; have := b.isLt; fin_cases a <;> simp [S1x32x512, S14x64x512] <;> omega)

/-- Bytes `32 … 63` of weight block `b` of the two-bit quants. -/
def highBox (b : Fin 14) : Rect S14x64x512 :=
  Rect.unit (s := S14x64x512) ![b.val, 32, 0] S1x32x512.size (by
    intro a; have := b.isLt; fin_cases a <;> simp [S1x32x512, S14x64x512] <;> omega)

/-- Byte `k` of the packed scales, of every weight block. -/
def scaleByteBox (k : Fin 12) : Rect S12x14x512 :=
  Rect.unit (s := S12x14x512) ![k.val, 0, 0] S1x14x512.size (by
    intro a; have := k.isLt; fin_cases a <;> simp [S1x14x512, S12x14x512] <;> omega)

/-- Row `f` of the scale scratch: the scales of groups `f` and `8 + f` of every weight block. -/
def scaleRowBox (f : Fin 8) : Rect S8x14x2x512 :=
  Rect.unit (s := S8x14x2x512) ![f.val, 0, 0, 0] S1x14x2x512.size (by
    intro a; have := f.isLt; fin_cases a <;> simp [S1x14x2x512, S8x14x2x512] <;> omega)

/-- The scales of groups `f` and `8 + f` of weight block `b`. -/
def scaleBox (f : Fin 8) (b : Fin 14) : Rect S8x14x2x512 :=
  Rect.unit (s := S8x14x2x512) ![f.val, b.val, 0, 0] S1x1x2x512.size (by
    intro a; have := f.isLt; have := b.isLt
    fin_cases a <;> simp [S1x1x2x512, S8x14x2x512] <;> omega)

/-! ### The activations in the weights' row order -/

/-- One block of activations, its columns permuted by the kernel's product with a 0/1 matrix. -/
def permuted (x : Vec F S128x256 .bf16) : FVec F S128x256 .bf16 := k0_pay2 x

/-- The piece the first grid point stores for block `b` of the activations. -/
def actPiece (x0 : Vec F S128x3584 .bf16) (b : Fin 14) : View.Piece (Elt F) S128x3584 .bf16 :=
  ⟨actBox b, permuted (View.ld x0 (actBox b))⟩

/-- The fourteen pieces the first grid point stores, the last one first. -/
def actPieces (x0 : Vec F S128x3584 .bf16) : List (View.Piece (Elt F) S128x3584 .bf16) :=
  [actPiece x0 13, actPiece x0 12, actPiece x0 11, actPiece x0 10, actPiece x0 9, actPiece x0 8,
    actPiece x0 7, actPiece x0 6, actPiece x0 5, actPiece x0 4, actPiece x0 3, actPiece x0 2,
    actPiece x0 1, actPiece x0 0]

/-! ### The scales -/

/-- One byte row of the packed scales, widened to words. -/
def scaleWord (s : Vec F S1x14x512 .i8) : IVec S14x512 32 :=
  extui 32 (shapeCast S14x512 s shapeCasts_S1x14x512_S14x512 : IVec S14x512 8) natLt_8_32

/-- The six-bit scale of the group held in the low four bits of `lo`; bits 4 and 5 are those of
    `hi` at position `r`. -/
def scaleOfLow (lo hi : IVec S14x512 32) (r : BitVec 32) : IVec S14x512 32 :=
  ori (andi lo (broadcast S14x512 15#32))
    (andi (shli (shrui hi (broadcast S14x512 r)) (broadcast S14x512 4#32)) (broadcast S14x512 48#32))

/-- The six-bit scale of the group held in the high four bits of `lo`; bits 4 and 5 are those of
    `hi` at position `r + 4`. -/
def scaleOfHigh (lo hi : IVec S14x512 32) (r : BitVec 32) : IVec S14x512 32 :=
  ori (shrui lo (broadcast S14x512 4#32))
    (andi (shrui hi (broadcast S14x512 r)) (broadcast S14x512 48#32))

/-- A scale times the halved super-scale of its block. -/
def scaled (dh : FVec F S14x512 .f32) (s : IVec S14x512 32) : FVec F S14x512 .bf16 :=
  truncf .bf16 (mulf dh (sitofp .f32 (subi s (broadcast S14x512 32#32)) : FVec F S14x512 .f32)) bitsLt_bf16_f32

/-- One row of scales as it is stored. -/
def asRow (g : FVec F S14x512 .bf16) : FVec F S1x14x1x512 .bf16 :=
  shapeCast S1x14x1x512 (shapeCast S1x14x512 g shapeCasts_S14x512_S1x14x512 : FVec F S1x14x512 .bf16)
    shapeCasts_S1x14x512_S1x14x1x512

/-- Row `f` of the scale scratch, from the packed bytes of groups `f` and `8 + f` and the byte with
    their upper bits. -/
def scaleRow (dh : FVec F S14x512 .f32) (lo hi : IVec S14x512 32) (r : BitVec 32) :
    Vec F S1x14x2x512 .bf16 :=
  interleaveRows S1x14x2x512 (asRow (scaled dh (scaleOfLow lo hi r)))
    (asRow (scaled dh (scaleOfHigh lo hi r))) bitcasts_S1x14x2x512_w16_S1x14x1x512_w32

/-- Row `f` of the scale scratch, from the grid point's scale bytes and super-scale words. -/
def scaleRowOf (x3 : Vec F S12x14x512 .i8) (x4 : Vec F S14x512 .i16) (f : Fin 8) :
    Vec F S1x14x2x512 .bf16 :=
  scaleRow (k0_pay18 x4) (scaleWord (F := F) (View.ld x3 (scaleByteBox (lowerByte f))))
    (scaleWord (F := F) (View.ld x3 (scaleByteBox (upperByte f)))) (BitVec.ofNat 32 (2 * (f.val / 4)))

/-- The piece stored for row `f` of the scale scratch. -/
def scalePiece (x3 : Vec F S12x14x512 .i8) (x4 : Vec F S14x512 .i16) (f : Fin 8) :
    View.Piece (Elt F) S8x14x2x512 .bf16 :=
  ⟨scaleRowBox f, scaleRowOf x3 x4 f⟩

/-- The eight pieces of the scale scratch, the last one first. -/
def scalePieces (x3 : Vec F S12x14x512 .i8) (x4 : Vec F S14x512 .i16) :
    List (View.Piece (Elt F) S8x14x2x512 .bf16) :=
  [scalePiece x3 x4 7, scalePiece x3 x4 6, scalePiece x3 x4 5, scalePiece x3 x4 4,
    scalePiece x3 x4 3, scalePiece x3 x4 2, scalePiece x3 x4 1, scalePiece x3 x4 0]

/-! ### The weights of one block -/

/-- Thirty-two rows of bytes, read as eight rows of words. -/
def wordsOf (v : Vec F S1x32x512 .i8) : IVec S8x512 32 :=
  bitcast S8x512 32 (shapeCast S32x512 v shapeCasts_S1x32x512_S32x512 : IVec S32x512 8)
    bitcasts_S32x512_w8_S8x512_w32

/-- The inverted mask words. -/
def maskWords (v : Vec F S1x32x512 .i8) : IVec S8x512 32 :=
  xori (wordsOf (F := F) v) (constantI S8x512 32 4294967295#32)

/-- The bits in which the high nibbles of `lo` and the low nibbles of `hi` differ. -/
def swapped (lo hi : IVec S8x512 32) : IVec S8x512 32 :=
  andi (xori lo (shli hi (broadcast S8x512 4#32))) (broadcast S8x512 4042322160#32)

/-- Fields 0 and 1 of all 64 bytes: the low nibbles of `lo` beside those of `hi`. -/
def fields01 (lo hi : IVec S8x512 32) : IVec S8x512 32 := xori lo (swapped lo hi)

/-- Fields 2 and 3 of all 64 bytes: the high nibbles of `lo` beside those of `hi`. -/
def fields23 (lo hi : IVec S8x512 32) : IVec S8x512 32 :=
  xori hi (shrui (swapped lo hi) (broadcast S8x512 4#32))

/-- An even field: its two bits and the inverted mask bit, moved to the top of each nibble. -/
def evenField (m hm : IVec S8x512 32) : IVec S8x512 32 :=
  shli (ori (andi m (broadcast S8x512 858993459#32)) (andi hm (broadcast S8x512 1145324612#32)))
    (broadcast S8x512 1#32)

/-- An odd field: its two bits and the inverted mask bit, at the top of each nibble. -/
def oddField (m hm : IVec S8x512 32) : IVec S8x512 32 :=
  ori (andi (shrui m (broadcast S8x512 1#32)) (broadcast S8x512 1717986918#32))
    (andi hm (broadcast S8x512 2290649224#32))

/-- The mask words for fields 0 and 1. -/
def maskUp (hm : IVec S8x512 32) : IVec S8x512 32 := shli hm (broadcast S8x512 2#32)

/-- The words of field `j`: eight nibbles each, a nibble being twice the signed quant. -/
def fieldWords (lo hi hm : IVec S8x512 32) (j : Fin 4) : IVec S8x512 32 :=
  match j with
  | 0 => evenField (fields01 lo hi) (maskUp hm)
  | 1 => oddField (fields01 lo hi) (maskUp hm)
  | 2 => evenField (fields23 lo hi) hm
  | 3 => oddField (fields23 lo hi) hm

/-- The nibbles of eight rows of words as sixty-four rows of signed integers. -/
def nibbleInts (w : IVec S8x512 32) : IVec S64x512 32 :=
  shrsi (shli (shapeCast S64x512 (broadcastTo S8x8x512 (shapeCast S8x1x512 (shapeCast S8x1x512 w
      shapeCasts_S8x512_S8x1x512 : IVec S8x1x512 32) shapeCasts_S8x1x512_S8x1x512 : IVec S8x1x512 32)
      broadcasts_S8x1x512_S8x8x512 : IVec S8x8x512 32) shapeCasts_S8x8x512_S64x512 : IVec S64x512 32)
    (subi (broadcast S64x512 28#32) (muli (broadcast S64x512 4#32)
      (andi (iota .tc S64x512 32 [0] iota_S64x512_d0_w32) (broadcast S64x512 7#32)))))
    (broadcast S64x512 28#32)

/-- The nibbles of eight rows of words as sixty-four rows of bf16 numbers. -/
def nibbles (w : IVec S8x512 32) : FVec F S64x512 .bf16 := sitofp .bf16 (nibbleInts w)

/-- One row out of a pair of scale rows. -/
def oneRow (v : FVec F S1x1x1x512 .bf16) : FVec F S1x512 .bf16 :=
  shapeCast S1x512 (shapeCast S1x1x512 v shapeCasts_S1x1x1x512_S1x1x512 : FVec F S1x1x512 .bf16)
    shapeCasts_S1x1x512_S1x512

/-- Sixteen copies of a row. -/
def sixteen (v : FVec F S1x512 .bf16) : FVec F S16x512 .bf16 :=
  concatenate S16x512 0 [⟨S1x512, v⟩, ⟨S1x512, v⟩, ⟨S1x512, v⟩, ⟨S1x512, v⟩, ⟨S1x512, v⟩,
    ⟨S1x512, v⟩, ⟨S1x512, v⟩, ⟨S1x512, v⟩, ⟨S1x512, v⟩, ⟨S1x512, v⟩, ⟨S1x512, v⟩, ⟨S1x512, v⟩,
    ⟨S1x512, v⟩, ⟨S1x512, v⟩, ⟨S1x512, v⟩, ⟨S1x512, v⟩]
    concatenates_S1x512_S1x512_S1x512_S1x512_S1x512_S1x512_S1x512_S1x512_S1x512_S1x512_S1x512_S1x512_S1x512_S1x512_S1x512_S1x512_S16x512_d0

/-- A pair of scale rows, repeated for sixteen pairs of nibble rows. -/
def spread (g : Vec F S1x1x2x512 .bf16) : FVec F S32x512 .bf16 :=
  interleaveRows S32x512
    (sixteen (oneRow (rowsOfParity 0 S1x1x1x512 g bitcasts_S1x1x2x512_w16_S1x1x1x512_w32)))
    (sixteen (oneRow (rowsOfParity 1 S1x1x1x512 g bitcasts_S1x1x2x512_w16_S1x1x1x512_w32)))
    bitcasts_S32x512_w16_S16x512_w32

/-- The weights of the first half of a field: the first thirty-two nibble rows, scaled. -/
def firstHalf (w : IVec S8x512 32) (g : Vec F S1x1x2x512 .bf16) : FVec F S32x512 .bf16 :=
  mulf (extractStridedSlice S32x512 ![0, 0] (nibbles (F := F) w) slices_S64x512_o0_0_S32x512) (spread g)

/-- The weights of the second half of a field: the last thirty-two nibble rows, scaled. -/
def secondHalf (w : IVec S8x512 32) (g : Vec F S1x1x2x512 .bf16) : FVec F S32x512 .bf16 :=
  mulf (extractStridedSlice S32x512 ![32, 0] (nibbles (F := F) w) slices_S64x512_o32_0_S32x512) (spread g)

/-- The 256 weight rows of one block: four fields of two halves. -/
def weights (w : Fin 4 → IVec S8x512 32) (g : Fin 8 → Vec F S1x1x2x512 .bf16) :
    FVec F S256x512 .bf16 :=
  concatenate S256x512 0
    [⟨S32x512, firstHalf (w 0) (g 0)⟩, ⟨S32x512, secondHalf (w 0) (g 1)⟩,
      ⟨S32x512, firstHalf (w 1) (g 2)⟩, ⟨S32x512, secondHalf (w 1) (g 3)⟩,
      ⟨S32x512, firstHalf (w 2) (g 4)⟩, ⟨S32x512, secondHalf (w 2) (g 5)⟩,
      ⟨S32x512, firstHalf (w 3) (g 6)⟩, ⟨S32x512, secondHalf (w 3) (g 7)⟩]
    concatenates_S32x512_S32x512_S32x512_S32x512_S32x512_S32x512_S32x512_S32x512_S256x512_d0

/-- The product of one block of permuted activations with its weights. -/
def product (x : Vec F S128x256 .bf16) (w : FVec F S256x512 .bf16) : FVec F S128x512 .f32 :=
  matmul dot_S128x256_S256x512_S128x512_1_0_0_1_n_n none x w (constant S128x512 .f32 0x00000000#32)

/-- The contribution of weight block `b` to a grid point's output, from the permuted activations
    `xp`, the mask block `x1`, the quant block `x2` and the filled scale scratch `gs`. -/
def part (xp : Vec F S128x3584 .bf16) (x1 : Vec F S14x32x512 .i8) (x2 : Vec F S14x64x512 .i8)
    (gs : Vec F S8x14x2x512 .bf16) (b : Fin 14) : FVec F S128x512 .f32 :=
  product (View.ld xp (actBox b))
    (weights (fieldWords (wordsOf (F := F) (View.ld x2 (lowBox b))) (wordsOf (F := F) (View.ld x2 (highBox b)))
      (maskWords (F := F) (View.ld x1 (maskBox b)))) (fun f => View.ld gs (scaleBox f b)))

/-- The sum of fourteen contributions, in the kernel's order. -/
def sum14 (p : Fin 14 → FVec F S128x512 .f32) : FVec F S128x512 .f32 :=
  addf (addf (addf (addf (addf (addf (addf (addf (addf (addf (addf (addf (addf (p 0) (p 1)) (p 2))
    (p 3)) (p 4)) (p 5)) (p 6)) (p 7)) (p 8)) (p 9)) (p 10)) (p 11)) (p 12)) (p 13)

/-- A grid point's output block. -/
def outBlock (xp : Vec F S128x3584 .bf16) (x1 : Vec F S14x32x512 .i8) (x2 : Vec F S14x64x512 .i8)
    (x3 : Vec F S12x14x512 .i8) (x4 : Vec F S14x512 .i16) : Vec F S128x512 .bf16 :=
  truncf .bf16 (sum14 (part xp x1 x2 (View.canon (scalePieces x3 x4)))) bitsLt_bf16_f32

end Cert.KernelIdeal.Body
end
-- ==== Proof.Opened.lean ====
module

public import proofs.«01_k».proof.Proof.Body

/-!
The printed kernel computes the functions of `Body.lean`: what it stores at the first grid point and
at every later one, and what it leaves in the scratch it carries.
-/

@[expose] public section

noncomputable section
set_option maxRecDepth 16384

namespace Cert.KernelIdeal.Body
open Cert.KernelIdeal Cert.KernelIdeal.Gen Idealize.ShloMosaic Idealize.ShloMosaic.TcCoe
variable {F : FTy → Type} [FloatOps F]

/-- A load of what the listed stores left reads the array they leave. -/
theorem readCov_eq_ld {S : Shape} {η : EltTy} (v : View sig .tc .vmem S η)
    (L : List (View.Piece (Elt F) S η)) (r : Rect S) :
    v.readCov L r.toLoadRect = View.ld (View.canon L) r :=
  View.readCov_eq_canon' v L r.toLoadRect

/-- The origin of a matrix. -/
theorem origin2 : (![0, 0] : Fin 2 → Nat) = fun _ => 0 := by decide

/-- Loading the whole super-scale block reads it. -/
theorem ld_words (x4 : Vec F S14x512 .i16) :
    View.ld x4 (Rect.unit (s := S14x512) ![0, 0] S14x512.size inb_S14x512_S14x512_0_0) = x4 :=
  View.ld_unit_zero origin2 _ x4

set_option maxHeartbeats 1000000 in
/-- At a later grid point the kernel stores `outBlock` of the carried activations. -/
theorem out_later (c : Dev nD) (i : grid0.Coords)
    (arg1 : Memref sig .tc .vmem S128x3584 .bf16) (harg1 : arg1.IsWhole)
    (arg2 : Memref sig .tc .vmem S14x32x512 .i8) (harg2 : arg2.IsWhole)
    (arg3 : Memref sig .tc .vmem S14x64x512 .i8) (harg3 : arg3.IsWhole)
    (arg4 : Memref sig .tc .vmem S12x14x512 .i8) (harg4 : arg4.IsWhole)
    (arg5 : Memref sig .tc .vmem S14x512 .i16) (harg5 : arg5.IsWhole)
    (arg6 : Memref sig .tc .vmem S128x512 .bf16) (harg6 : arg6.IsWhole)
    (arg7 : Memref sig .tc .vmem S128x3584 .bf16) (harg7 : arg7.IsWhole)
    (arg8 : Memref sig .tc .vmem S8x14x2x512 .bf16) (harg8 : arg8.IsWhole)
    (hc0 : ¬cond0_0 i)
    (x0 : Vec F S128x3584 .bf16) (x1 : Vec F S14x32x512 .i8) (x2 : Vec F S14x64x512 .i8)
    (x3 : Vec F S12x14x512 .i8) (x4 : Vec F S14x512 .i16)
    (xs0 : Vec F S128x3584 .bf16) :
    out0_B_5 c i arg1 harg1 arg2 harg2 arg3 harg3 arg4 harg4 arg5 harg5 arg6 harg6 arg7 harg7
    arg8 harg8 hc0 x0 x1 x2 x3 x4 xs0 = outBlock xs0 x1 x2 x3 x4 := by
  unfold out0_B_5
  rw [View.read_writes_eq_canon _ _ _ (cover0_B_5 c i arg1 harg1 arg2 harg2 arg3 harg3 arg4 harg4 arg5 harg5 arg6 harg6 arg7 harg7
    arg8 harg8 hc0 x0 x1 x2 x3 x4 xs0)]
  unfold kernelRun0_B
  dsimp only
  sl_unfold_words
  simp only [readCov_eq_ld, View.readAt_eq_ld, harg1.read_unread, harg2.read_unread,
    harg3.read_unread, harg4.read_unread, harg5.read_unread, harg7.read_unread]
  rw [View.canon_unit_zero origin2, ld_words]
  generalize hgs : (View.canon (_ :: _ : List (View.Piece (Elt F) S8x14x2x512 .bf16)) :
    Vec F S8x14x2x512 .bf16) = gs
  have hgs' : View.canon (scalePieces x3 x4) = gs := by
    rw [← hgs]
    rfl
  unfold outBlock sum14
  rw [hgs']
  clear hgs hgs'
  rfl

set_option maxHeartbeats 1000000 in
/-- The first grid point leaves the permuted activations in the scratch that is carried. -/
theorem scratch_first (c : Dev nD) (i : grid0.Coords)
    (arg1 : Memref sig .tc .vmem S128x3584 .bf16) (harg1 : arg1.IsWhole)
    (arg2 : Memref sig .tc .vmem S14x32x512 .i8) (harg2 : arg2.IsWhole)
    (arg3 : Memref sig .tc .vmem S14x64x512 .i8) (harg3 : arg3.IsWhole)
    (arg4 : Memref sig .tc .vmem S12x14x512 .i8) (harg4 : arg4.IsWhole)
    (arg5 : Memref sig .tc .vmem S14x512 .i16) (harg5 : arg5.IsWhole)
    (arg6 : Memref sig .tc .vmem S128x512 .bf16) (harg6 : arg6.IsWhole)
    (arg7 : Memref sig .tc .vmem S128x3584 .bf16) (harg7 : arg7.IsWhole)
    (arg8 : Memref sig .tc .vmem S8x14x2x512 .bf16) (harg8 : arg8.IsWhole)
    (hc0 : cond0_0 i)
    (x0 : Vec F S128x3584 .bf16) (x1 : Vec F S14x32x512 .i8) (x2 : Vec F S14x64x512 .i8)
    (x3 : Vec F S12x14x512 .i8) (x4 : Vec F S14x512 .i16) :
    sout0_A_0 c i arg1 harg1 arg2 harg2 arg3 harg3 arg4 harg4 arg5 harg5 arg6 harg6 arg7 harg7
    arg8 harg8 hc0 x0 x1 x2 x3 x4 = View.canon (actPieces x0) := by
  unfold sout0_A_0
  rw [View.read_writes_eq_canon _ _ _ (scover0_A_0 c i arg1 harg1 arg2 harg2 arg3 harg3 arg4 harg4 arg5 harg5 arg6 harg6 arg7 harg7
    arg8 harg8 hc0 x0 x1 x2 x3 x4)]
  unfold kernelRun0_A
  dsimp only
  sl_unfold_words
  simp only [View.readAt_eq_ld, harg1.read_unread]
  rfl

set_option maxHeartbeats 1000000 in
/-- At the first grid point the kernel stores `outBlock` of the activations it has just permuted. -/
theorem out_first (c : Dev nD) (i : grid0.Coords)
    (arg1 : Memref sig .tc .vmem S128x3584 .bf16) (harg1 : arg1.IsWhole)
    (arg2 : Memref sig .tc .vmem S14x32x512 .i8) (harg2 : arg2.IsWhole)
    (arg3 : Memref sig .tc .vmem S14x64x512 .i8) (harg3 : arg3.IsWhole)
    (arg4 : Memref sig .tc .vmem S12x14x512 .i8) (harg4 : arg4.IsWhole)
    (arg5 : Memref sig .tc .vmem S14x512 .i16) (harg5 : arg5.IsWhole)
    (arg6 : Memref sig .tc .vmem S128x512 .bf16) (harg6 : arg6.IsWhole)
    (arg7 : Memref sig .tc .vmem S128x3584 .bf16) (harg7 : arg7.IsWhole)
    (arg8 : Memref sig .tc .vmem S8x14x2x512 .bf16) (harg8 : arg8.IsWhole)
    (hc0 : cond0_0 i)
    (x0 : Vec F S128x3584 .bf16) (x1 : Vec F S14x32x512 .i8) (x2 : Vec F S14x64x512 .i8)
    (x3 : Vec F S12x14x512 .i8) (x4 : Vec F S14x512 .i16) :
    out0_A_5 c i arg1 harg1 arg2 harg2 arg3 harg3 arg4 harg4 arg5 harg5 arg6 harg6 arg7 harg7
    arg8 harg8 hc0 x0 x1 x2 x3 x4
      = outBlock (View.canon (actPieces x0)) x1 x2 x3 x4 := by
  unfold out0_A_5
  rw [View.read_writes_eq_canon _ _ _ (cover0_A_5 c i arg1 harg1 arg2 harg2 arg3 harg3 arg4 harg4 arg5 harg5 arg6 harg6 arg7 harg7
    arg8 harg8 hc0 x0 x1 x2 x3 x4)]
  unfold kernelRun0_A
  dsimp only
  sl_unfold_words
  simp only [readCov_eq_ld, View.readAt_eq_ld, harg1.read_unread, harg2.read_unread,
    harg3.read_unread, harg4.read_unread, harg5.read_unread, harg7.read_unread]
  rw [View.canon_unit_zero origin2, ld_words]
  generalize hgs : (View.canon (_ :: _ : List (View.Piece (Elt F) S8x14x2x512 .bf16)) :
    Vec F S8x14x2x512 .bf16) = gs
  have hgs' : View.canon (scalePieces x3 x4) = gs := by
    rw [← hgs]
    rfl
  generalize hxp : (View.canon (_ :: _ : List (View.Piece (Elt F) S128x3584 .bf16)) :
    Vec F S128x3584 .bf16) = xp
  have hxp' : View.canon (actPieces x0) = xp := by
    rw [← hxp]
    rfl
  unfold outBlock sum14
  rw [hgs', hxp']
  clear hgs hgs' hxp hxp'
  rfl

end Cert.KernelIdeal.Body
end
-- ==== Proof.Weights.lean ====
module

public import proofs.«01_k».proof.Proof.Body
public import Idealize.ShloMosaic.Lib.BitcastFour

/-!
The weights of one block, entry by entry: row `64 j + 32 t + ρ` of the 256 weight rows is nibble row
`32 t + ρ` of field `j`, scaled.
-/

@[expose] public section

noncomputable section

namespace Cert.KernelIdeal.Body
open Cert.KernelIdeal Cert.KernelIdeal.Gen Idealize.ShloMosaic Idealize.ShloMosaic.ValueIdx Cert.Proof

/-! ### Words -/

/-- A bit of a word row is a bit of one of its four byte rows. -/
theorem wordsOf_bit (v : Vec Ideal S1x32x512 .i8) (a : Fin 8) (n : Fin 512) (q : Nat) (hq : q < 32)
    (p : Fin 32) (hp : p.val = 4 * a.val + q / 8) :
    (wordsOf (F := Ideal) v (ix2 a n) : BitVec 32).getLsbD q
      = (v (ix3 0 p n) : BitVec 8).getLsbD (q % 8) := by
  unfold wordsOf
  rw [bitcast_8_32_getLsbD_ix2 _ _ a n q hq p hp]
  congr 1
  refine shapeCast_apply v _ _ _ ?_
  rw [Shape.rowMajor_val_three, Shape.rowMajor_val_two]
  simp

/-- The words of field `j` are assembled word by word. -/
theorem fieldWords_apply (lo hi hm : IVec S8x512 32) (j : Fin 4) (i : S8x512.Idx) :
    fieldWords lo hi hm j i = fieldWord (lo i) (hi i) (hm i) j := by
  fin_cases j <;> rfl

/-- The shift that brings nibble `R % 8` to the top of a word. -/
theorem nibble_shift (R : Fin 64) :
    (28#32 - 4#32 * (BitVec.ofNat 32 R.val &&& 7#32)) = BitVec.ofNat 32 (28 - 4 * (R.val % 8)) := by
  revert R; decide

/-- Nibble row `R` is nibble `R % 8` of word row `R / 8`. -/
theorem nibbleInts_apply (w : IVec S8x512 32) (R : Fin 64) (n : Fin 512) :
    nibbleInts w (ix2 R n) = nibble (w (ix2 ⟨R.val / 8, by omega⟩ n)) (R.val % 8) := by
  have hw : (shapeCast S64x512 (broadcastTo S8x8x512 (shapeCast S8x1x512 (shapeCast S8x1x512 w
      shapeCasts_S8x512_S8x1x512 : IVec S8x1x512 32) shapeCasts_S8x1x512_S8x1x512 : IVec S8x1x512 32)
      broadcasts_S8x1x512_S8x8x512 : IVec S8x8x512 32) shapeCasts_S8x8x512_S64x512 : IVec S64x512 32) (ix2 R n)
      = w (ix2 ⟨R.val / 8, by omega⟩ n) := by
    rw [shapeCast_apply _ _ _ (ix3 (⟨R.val / 8, by omega⟩ : Fin 8) (⟨R.val % 8, by omega⟩ : Fin 8) n)
      (by rw [Shape.rowMajor_val_three, Shape.rowMajor_val_two]
          show (R.val / 8 * 8 + R.val % 8) * 512 + n.val = R.val * 512 + n.val
          omega)]
    rw [broadcastTo_apply _ _ _ (ix3 (⟨R.val / 8, by omega⟩ : Fin 8) (0 : Fin 1) n)
      (by intro a; fin_cases a <;> rfl)]
    rw [shapeCast_apply _ _ _ (ix3 (⟨R.val / 8, by omega⟩ : Fin 8) (0 : Fin 1) n) rfl]
    exact shapeCast_apply _ _ _ _ (by rw [Shape.rowMajor_val_three, Shape.rowMajor_val_two]; simp)
  have hs : (subi (broadcast S64x512 28#32) (muli (broadcast S64x512 4#32)
      (andi (iota .tc S64x512 32 [0] iota_S64x512_d0_w32) (broadcast S64x512 7#32))) : IVec S64x512 32) (ix2 R n)
      = BitVec.ofNat 32 (28 - 4 * (R.val % 8)) := by
    rw [← nibble_shift R]
    show 28#32 - 4#32 * (iota .tc S64x512 32 [0] iota_S64x512_d0_w32 (ix2 R n) &&& 7#32) = _
    rw [iota_single_apply]
  unfold nibbleInts
  show IntOp.shrsi .vector (IntOp.shli .vector _ _) 28#32 = _
  rw [hw, hs]
  unfold IntOp.shrsi IntOp.shli nibble
  rw [if_pos (by decide), if_pos (by rw [BitVec.toNat_ofNat]; omega)]
  rw [BitVec.shiftLeft_eq', BitVec.toNat_ofNat, Nat.mod_eq_of_lt (by omega)]
  rfl

/-! ### Scales, spread over the nibble rows -/

/-- A row of scales without its unit axes. -/
theorem oneRow_apply (v : FVec Ideal S1x1x1x512 .bf16) (n : Fin 512) :
    oneRow (F := Ideal) v (ix2 0 n) = v (ix4 0 0 0 n) := by
  unfold oneRow
  rw [shapeCast_apply _ _ _ (ix3 (0 : Fin 1) (0 : Fin 1) n)
      (by rw [Shape.rowMajor_val_three, Shape.rowMajor_val_two]; simp)]
  exact shapeCast_apply _ _ _ _ (by rw [Shape.rowMajor_val_three, Shape.rowMajor_val_four]; simp)

/-- Sixteen copies of a row of scales. -/
theorem sixteen_apply (v : FVec Ideal S1x512 .bf16) (a : Fin 16) (n : Fin 512) :
    sixteen (F := Ideal) v (ix2 a n) = v (ix2 0 n) := by
  unfold sixteen
  refine concatenate_replicate_apply (t := S16x512) 0 16 v _ rfl (ix2 a n) (ix2 0 n) ?_ ?_
  · show (0 : Nat) = a.val % 1
    omega
  · intro b hb
    fin_cases b
    · exact absurd rfl hb
    · rfl

/-- Row `ρ` of the spread pair is the pair's row `ρ % 2`. -/
theorem spread_apply (g : Vec Ideal S1x1x2x512 .bf16) (ρ : Fin 32) (n : Fin 512) :
    spread (F := Ideal) g (ix2 ρ n) = g (ix4 0 0 ⟨ρ.val % 2, by omega⟩ n) := by
  unfold spread
  have hrow : S32x512.row (ix2 ρ n) = ρ.val := rfl
  unfold interleaveRows
  rw [hrow]
  have key : ∀ (p : Fin 2), oneRow (F := Ideal) (rowsOfParity p S1x1x1x512 g bitcasts_S1x1x2x512_w16_S1x1x1x512_w32)
      (ix2 0 n) = g (ix4 0 0 p n) := by
    intro p
    rw [oneRow_apply]
    unfold rowsOfParity
    congr 1
    funext a
    apply Fin.ext
    fin_cases a <;> simp
  by_cases h : ρ.val % 2 = 0
  · rw [if_pos h]
    refine Eq.trans ?_ ((sixteen_apply _ ⟨ρ.val / 2, by omega⟩ n).trans ((key 0).trans ?_))
    · congr 1; funext a; apply Fin.ext; fin_cases a <;> rfl
    · congr 2; exact Fin.ext h.symm
  · rw [if_neg h]
    refine Eq.trans ?_ ((sixteen_apply _ ⟨ρ.val / 2, by omega⟩ n).trans ((key 1).trans ?_))
    · congr 1; funext a; apply Fin.ext; fin_cases a <;> rfl
    · congr 2; exact Fin.ext (by show 1 = ρ.val % 2; omega)

/-- An entry of the first half of a field. -/
theorem firstHalf_apply (w : IVec S8x512 32) (g : Vec Ideal S1x1x2x512 .bf16) (ρ : Fin 32) (n : Fin 512) :
    firstHalf (F := Ideal) w g (ix2 ρ n) = (((nibbleInts w (ix2 ⟨ρ.val, by omega⟩ n)).toInt : ℝ) : EReal)
      * g (ix4 0 0 ⟨ρ.val % 2, by omega⟩ n) := by
  unfold firstHalf
  rw [← spread_apply g ρ n]
  show _ * _ = _
  refine congrArg (· * spread (F := Ideal) g (ix2 ρ n)) ?_
  rw [extractStridedSlice_apply _ _ _ _ (ix2 (⟨ρ.val, by omega⟩ : Fin 64) n)
    (by intro a; fin_cases a <;> simp)]
  rfl

/-- An entry of the second half of a field. -/
theorem secondHalf_apply (w : IVec S8x512 32) (g : Vec Ideal S1x1x2x512 .bf16) (ρ : Fin 32) (n : Fin 512) :
    secondHalf (F := Ideal) w g (ix2 ρ n) = (((nibbleInts w (ix2 ⟨32 + ρ.val, by omega⟩ n)).toInt : ℝ) : EReal)
      * g (ix4 0 0 ⟨ρ.val % 2, by omega⟩ n) := by
  unfold secondHalf
  rw [← spread_apply g ρ n]
  show _ * _ = _
  refine congrArg (· * spread (F := Ideal) g (ix2 ρ n)) ?_
  rw [extractStridedSlice_apply _ _ _ _ (ix2 (⟨32 + ρ.val, by omega⟩ : Fin 64) n)
    (by intro a; fin_cases a <;> simp)]
  rfl

/-- The eight pieces of the weights, numbered. -/
def weightPiece (w : Fin 4 → IVec S8x512 32) (g : Fin 8 → Vec Ideal S1x1x2x512 .bf16) (f : Fin 8) :
    FVec Ideal S32x512 .bf16 :=
  if f.val % 2 = 0 then firstHalf (F := Ideal) (w ⟨f.val / 2, by omega⟩) (g f) else secondHalf (F := Ideal) (w ⟨f.val / 2, by omega⟩) (g f)

/-- One of the eight pieces of the weights is its nibbles times its scales. -/
theorem weightPiece_apply (w : Fin 4 → IVec S8x512 32) (g : Fin 8 → Vec Ideal S1x1x2x512 .bf16) (f : Fin 8)
    (ρ : Fin 32) (n : Fin 512) :
    weightPiece w g f (ix2 ρ n)
      = (((nibbleInts (w ⟨f.val / 2, by omega⟩) (ix2 ⟨32 * (f.val % 2) + ρ.val, by omega⟩ n)).toInt : ℝ) : EReal)
        * g f (ix4 0 0 ⟨ρ.val % 2, by omega⟩ n) := by
  unfold weightPiece
  by_cases h : f.val % 2 = 0
  · rw [if_pos h, firstHalf_apply]
    congr 5
    exact congrArg (ix2 · n) (Fin.ext (by show ρ.val = 32 * (f.val % 2) + ρ.val; omega))
  · rw [if_neg h, secondHalf_apply]
    congr 5
    exact congrArg (ix2 · n) (Fin.ext (by show 32 + ρ.val = 32 * (f.val % 2) + ρ.val; omega))

/-- Row `32 f + ρ` of the weights is row `ρ` of piece `f`. -/
theorem weights_apply (w : Fin 4 → IVec S8x512 32) (g : Fin 8 → Vec Ideal S1x1x2x512 .bf16) (f : Fin 8)
    (ρ : Fin 32) (n : Fin 512) :
    weights (F := Ideal) w g (ix2 (⟨32 * f.val + ρ.val, by omega⟩ : Fin 256) n) = weightPiece w g f (ix2 ρ n) := by
  have e : weights (F := Ideal) w g = concatenate S256x512 0
      (List.ofFn fun f : Fin 8 => (⟨S32x512, weightPiece w g f⟩ : (s : Shape) × (s.Idx → EReal)))
      concatenates_S32x512_S32x512_S32x512_S32x512_S32x512_S32x512_S32x512_S32x512_S256x512_d0 := rfl
  rw [e]
  refine concatenate_ofFn_apply (t := S256x512) (s₁ := S32x512) 0 (fun f => weightPiece w g f) _ rfl 32 rfl _ f
    ?_ _ ?_ ?_
  · show (32 * f.val + ρ.val) / 32 = f.val
    omega
  · show ρ.val = (32 * f.val + ρ.val) % 32
    omega
  · intro b hb
    fin_cases b
    · exact absurd rfl hb
    · rfl

end Cert.KernelIdeal.Body
end
-- ==== Proof.Scales.lean ====
module

public import proofs.«01_k».proof.Proof.Weights

/-!
The scale scratch of one grid point, entry by entry: row `f` holds, for parity `p`, half the scale of
group `8 p + f` of every weight block.
-/

@[expose] public section

noncomputable section

namespace Cert.Proof
open Idealize.ShloMosaic

/-- The kernel's factor one half. -/
theorem bits_half : Ideal.ofBits .f32 0x3F000000#32 = ((1 / 2 : ℝ) : EReal) := by
  simp [Ideal.ofBits, Ideal.ieee, -EReal.coe_mul]; norm_num

end Cert.Proof

namespace Cert.KernelIdeal.Body
open Cert.KernelIdeal Cert.KernelIdeal.Gen Idealize.ShloMosaic Idealize.ShloMosaic.ValueIdx Cert.Proof

/-- The halved super-scales. -/
theorem superScale_apply (x4 : Vec Ideal S14x512 .i16) (i : S14x512.Idx) :
    (k0_pay18 (F := Ideal) x4 i : EReal) = half (x4 i) * ((1 / 2 : ℝ) : EReal) := by
  rw [← bits_half, ← kernelHalf_eq (x4 i)]
  rfl

/-- A row of scale bytes, widened. -/
theorem scaleWord_apply (s : Vec Ideal S1x14x512 .i8) (b : Fin 14) (n : Fin 512) :
    scaleWord (F := Ideal) s (ix2 b n) = (s (ix3 0 b n) : BitVec 8).setWidth 32 := by
  unfold scaleWord
  show BitVec.setWidth 32 _ = _
  congr 1
  exact shapeCast_apply _ _ _ _ (by rw [Shape.rowMajor_val_three, Shape.rowMajor_val_two]; simp)

/-- A scale byte where it lies. -/
theorem scaleByte_apply (x3 : Vec Ideal S12x14x512 .i8) (k : Fin 12) (b : Fin 14) (n : Fin 512) :
    View.ld x3 (scaleByteBox k) (ix3 0 b n) = x3 (ix3 k b n) := by
  show x3 _ = x3 _
  congr 1
  funext a
  apply Fin.ext
  fin_cases a <;> simp [scaleByteBox, ix3]

/-- A logical right shift by a literal below the width. -/
theorem shrui_const (x : BitVec 32) (k : Nat) (hk : k < 32) :
    IntOp.shrui .vector x (BitVec.ofNat 32 k) = x >>> k := by
  unfold IntOp.shrui
  have h : (BitVec.ofNat 32 k).toNat = k := by rw [BitVec.toNat_ofNat]; omega
  rw [if_pos (by rw [h]; exact hk), BitVec.ushiftRight_eq', h]

/-- The six-bit scale of a group of the first half, from its two bytes. -/
theorem scaleOfLow_apply (lo hi : IVec S14x512 32) (a b : BitVec 8) (f : Fin 8) (i : S14x512.Idx)
    (ha : lo i = a.setWidth 32) (hb : hi i = b.setWidth 32) :
    scaleOfLow lo hi (BitVec.ofNat 32 (2 * (f.val / 4))) i = scaleBits a b 0 f := by
  rw [← scale_low a b f, ← ha, ← hb, ← shrui_const (hi i) (2 * (f.val / 4)) (by omega)]
  rfl

/-- The six-bit scale of a group of the second half, from its two bytes. -/
theorem scaleOfHigh_apply (lo hi : IVec S14x512 32) (a b : BitVec 8) (f : Fin 8) (i : S14x512.Idx)
    (ha : lo i = a.setWidth 32) (hb : hi i = b.setWidth 32) :
    scaleOfHigh lo hi (BitVec.ofNat 32 (2 * (f.val / 4))) i = scaleBits a b 1 f := by
  rw [← scale_high a b f, ← ha, ← hb, ← shrui_const (hi i) (2 * (f.val / 4)) (by omega),
    ← shrui_const (lo i) 4 (by omega)]
  rfl

/-- Row `b` of a scale matrix, as a row of its own. -/
theorem asRow_apply (g : FVec Ideal S14x512 .bf16) (b : Fin 14) (n : Fin 512) :
    asRow (F := Ideal) g (ix4 0 b 0 n) = g (ix2 b n) := by
  unfold asRow
  rw [shapeCast_apply _ _ _ (ix3 (0 : Fin 1) b n)
      (by rw [Shape.rowMajor_val_three, Shape.rowMajor_val_four]; simp)]
  exact shapeCast_apply _ _ _ _ (by rw [Shape.rowMajor_val_three, Shape.rowMajor_val_two]; simp)

/-- Half the scale of group `8 p + f` of weight block `b`, column `n`, of a grid point's blocks. -/
def halfScale (x3 : Vec Ideal S12x14x512 .i8) (x4 : Vec Ideal S14x512 .i16) (f : Fin 8) (b : Fin 14)
    (p : Fin 2) (n : Fin 512) : EReal :=
  half (x4 (ix2 b n)) * ((1 / 2 : ℝ) : EReal)
    * (((scaleBits (x3 (ix3 (lowerByte f) b n)) (x3 (ix3 (upperByte f) b n)) p f - 32#32).toInt : ℝ) : EReal)

/-- The kernel's scale: half the super-scale times the six-bit scale less 32. -/
theorem scaled_apply (x4 : Vec Ideal S14x512 .i16) (s : IVec S14x512 32) (i : S14x512.Idx) :
    scaled (F := Ideal) (k0_pay18 (F := Ideal) x4) s i
      = half (x4 i) * ((1 / 2 : ℝ) : EReal) * (((s i - 32#32).toInt : ℝ) : EReal) := by
  rw [← superScale_apply]
  rfl

/-- One stored row of scales, from its two byte rows. -/
theorem scaleRow_apply (lo hi : Vec Ideal S1x14x512 .i8) (x4 : Vec Ideal S14x512 .i16) (f : Fin 8) (b : Fin 14)
    (p : Fin 2) (n : Fin 512) :
    scaleRow (F := Ideal) (k0_pay18 (F := Ideal) x4) (scaleWord (F := Ideal) lo) (scaleWord (F := Ideal) hi)
        (BitVec.ofNat 32 (2 * (f.val / 4))) (ix4 0 b p n)
      = half (x4 (ix2 b n)) * ((1 / 2 : ℝ) : EReal)
        * (((scaleBits (lo (ix3 0 b n)) (hi (ix3 0 b n)) p f - 32#32).toInt : ℝ) : EReal) := by
  unfold scaleRow interleaveRows
  have hrow : S1x14x2x512.row (ix4 (0 : Fin 1) b p n) = p.val := rfl
  have hlo := scaleWord_apply lo b n
  have hhi := scaleWord_apply hi b n
  simp only [hrow]
  by_cases h : p = 0
  · subst h
    rw [if_pos (by decide), ← scaleOfLow_apply _ _ _ _ f _ hlo hhi, ← scaled_apply]
    refine Eq.trans ?_ (asRow_apply _ b n)
    congr 1; funext a; apply Fin.ext
    fin_cases a
    · rfl
    · rfl
    · exact (by decide : (0 : Nat) / 2 = 0)
    · rfl
  · obtain rfl : p = 1 := by omega
    rw [if_neg (by decide), ← scaleOfHigh_apply _ _ _ _ f _ hlo hhi, ← scaled_apply]
    refine Eq.trans ?_ (asRow_apply _ b n)
    congr 1; funext a; apply Fin.ext
    fin_cases a
    · rfl
    · rfl
    · exact (by decide : (1 : Nat) / 2 = 0)
    · rfl

/-- What is stored for row `f`. -/
theorem scaleRowOf_apply (x3 : Vec Ideal S12x14x512 .i8) (x4 : Vec Ideal S14x512 .i16) (f : Fin 8) (b : Fin 14)
    (p : Fin 2) (n : Fin 512) :
    scaleRowOf (F := Ideal) x3 x4 f (ix4 0 b p n) = halfScale x3 x4 f b p n := by
  unfold halfScale
  rw [← scaleByte_apply x3 (lowerByte f), ← scaleByte_apply x3 (upperByte f)]
  exact scaleRow_apply _ _ x4 f b p n

/-- What the scale scratch holds once its eight rows are stored. -/
theorem scaleScratch_apply (x3 : Vec Ideal S12x14x512 .i8) (x4 : Vec Ideal S14x512 .i16) (f : Fin 8) (b : Fin 14)
    (p : Fin 2) (n : Fin 512) :
    View.canon (scalePieces (F := Ideal) x3 x4) (ix4 f b p n) = halfScale x3 x4 f b p n := by
  refine View.canon_apply_of_pieces (Val := Elt Ideal) (e := .bf16)
    (fun y : S8x14x2x512.Idx => (halfScale x3 x4 (y 0) (y 1) (y 2) (y 3) : EReal)) _ ?_ _ ?_
  · have all : ∀ f : Fin 8, ∀ x : (scaleRowBox f).shape.Idx, scaleRowOf (F := Ideal) x3 x4 f x
        = halfScale x3 x4 ((scaleRowBox f).emb x 0) ((scaleRowBox f).emb x 1) ((scaleRowBox f).emb x 2)
            ((scaleRowBox f).emb x 3) := by
      intro f x
      have hx : x = ix4 (0 : Fin 1) (x 1) (x 2) (x 3) := by
        funext a; fin_cases a
        · exact Subsingleton.elim (α := Fin 1) _ _
        all_goals rfl
      refine (congrArg _ hx).trans ((scaleRowOf_apply x3 x4 f (x 1) (x 2) (x 3)).trans ?_)
      have e0 : (scaleRowBox f).emb x 0 = f := Fin.ext (by
        have : (x 0).val < 1 := (x 0).isLt
        rw [Rect.emb_apply]; show f.val + 1 * (x 0).val = f.val; omega)
      have e1 : (scaleRowBox f).emb x 1 = x 1 := Fin.ext (by
        rw [Rect.emb_apply]; show 0 + 1 * (x 1).val = (x 1).val; omega)
      have e2 : (scaleRowBox f).emb x 2 = x 2 := Fin.ext (by
        rw [Rect.emb_apply]; show 0 + 1 * (x 2).val = (x 2).val; omega)
      have e3 : (scaleRowBox f).emb x 3 = x 3 := Fin.ext (by
        rw [Rect.emb_apply]; show 0 + 1 * (x 3).val = (x 3).val; omega)
      rw [e0, e1, e2, e3]
    intro q hq
    simp only [scalePieces, List.mem_cons, List.not_mem_nil, or_false] at hq
    rcases hq with rfl | rfl | rfl | rfl | rfl | rfl | rfl | rfl <;> exact all _
  · refine ⟨scalePiece x3 x4 f, ?_, ?_⟩
    · fin_cases f <;> simp [scalePieces]
    · show ix4 f b p n ∈ (scaleRowBox f).set
      unfold scaleRowBox
      rw [Rect.mem_set_unit]
      intro a
      fin_cases a
      · exact ⟨Nat.le_refl _, Nat.lt_succ_self _⟩
      · exact ⟨Nat.zero_le _, by show b.val < 0 + 14; omega⟩
      · exact ⟨Nat.zero_le _, by show p.val < 0 + 2; omega⟩
      · exact ⟨Nat.zero_le _, by show n.val < 0 + 512; omega⟩

/-- A pair of scale rows as the weights read it. -/
theorem scalePair_apply (x3 : Vec Ideal S12x14x512 .i8) (x4 : Vec Ideal S14x512 .i16) (f : Fin 8) (b : Fin 14)
    (p : Fin 2) (n : Fin 512) :
    View.ld (View.canon (scalePieces (F := Ideal) x3 x4)) (scaleBox f b) (ix4 0 0 p n) = halfScale x3 x4 f b p n := by
  rw [← scaleScratch_apply]
  show View.canon _ _ = _
  congr 1
  funext a
  apply Fin.ext
  fin_cases a <;> simp [scaleBox, ix4]

end Cert.KernelIdeal.Body
end
-- ==== Proof.Entry.lean ====
module

public import proofs.«01_k».proof.Proof.Scales

/-!
One weight of a block in closed form: the row `64 j + 2 l + h` of the kernel's weights is the signed
quant of half `h`, field `j`, byte `l`, times the scale of its group.
-/

@[expose] public section

noncomputable section

namespace Cert.Proof
open Idealize.ShloMosaic

/-- Twice a quant times half a scale. -/
theorem double_half (H : EReal) (a k : ℤ) :
    (((2 * a : ℤ) : ℝ) : EReal) * (H * ((1 / 2 : ℝ) : EReal) * ((k : ℝ) : EReal))
      = ((a : ℝ) : EReal) * (H * ((k : ℝ) : EReal)) := by
  have e : (((2 * a : ℤ) : ℝ) : EReal) = ((a : ℝ) : EReal) * ((2 : ℝ) : EReal) := by
    rw [← EReal.coe_mul]; push_cast; rw [mul_comm]
  have t : ((2 : ℝ) : EReal) * ((1 / 2 : ℝ) : EReal) = 1 := by
    rw [← EReal.coe_mul]; norm_num
  rw [e]
  calc ((a : ℝ) : EReal) * ((2 : ℝ) : EReal) * (H * ((1 / 2 : ℝ) : EReal) * ((k : ℝ) : EReal))
      = ((a : ℝ) : EReal) * (H * ((k : ℝ) : EReal)) * (((2 : ℝ) : EReal) * ((1 / 2 : ℝ) : EReal)) := by
        ac_rfl
    _ = _ := by rw [t, mul_one]

end Cert.Proof

namespace Cert.KernelIdeal.Body
open Cert.KernelIdeal Cert.KernelIdeal.Gen Idealize.ShloMosaic Idealize.ShloMosaic.ValueIdx Cert.Proof

/-! ### Bytes where they lie -/

/-- The mask bytes of block `b`. -/
def maskBytes (x1 : Vec Ideal S14x32x512 .i8) (b : Fin 14) : Vec Ideal S1x32x512 .i8 := View.ld x1 (maskBox b)

/-- The quant bytes 0 … 31 of block `b`. -/
def lowBytes (x2 : Vec Ideal S14x64x512 .i8) (b : Fin 14) : Vec Ideal S1x32x512 .i8 := View.ld x2 (lowBox b)

/-- The quant bytes 32 … 63 of block `b`. -/
def highBytes (x2 : Vec Ideal S14x64x512 .i8) (b : Fin 14) : Vec Ideal S1x32x512 .i8 := View.ld x2 (highBox b)

/-- The stored scales of groups `f` and `8 + f` of block `b`. -/
def scalePair (x3 : Vec Ideal S12x14x512 .i8) (x4 : Vec Ideal S14x512 .i16) (b : Fin 14) (f : Fin 8) :
    Vec Ideal S1x1x2x512 .bf16 := View.ld (View.canon (scalePieces (F := Ideal) x3 x4)) (scaleBox f b)

/-- The mask bytes of block `b`, read from the window. -/
theorem maskByte_apply (x1 : Vec Ideal S14x32x512 .i8) (b : Fin 14) (l : Fin 32) (n : Fin 512) :
    maskBytes x1 b (ix3 0 l n) = x1 (ix3 b l n) := by
  show x1 _ = x1 _
  congr 1; funext a; apply Fin.ext
  fin_cases a <;> simp [maskBox, ix3]

/-- The quant bytes of the first half of block `b`, read from the window. -/
theorem lowByte_apply (x2 : Vec Ideal S14x64x512 .i8) (b : Fin 14) (l : Fin 32) (n : Fin 512) :
    lowBytes x2 b (ix3 0 l n) = x2 (ix3 b ⟨l.val, by omega⟩ n) := by
  show x2 _ = x2 _
  congr 1; funext a; apply Fin.ext
  fin_cases a <;> simp [lowBox, ix3]

/-- The quant bytes of the second half of block `b`, read from the window. -/
theorem highByte_apply (x2 : Vec Ideal S14x64x512 .i8) (b : Fin 14) (l : Fin 32) (n : Fin 512) :
    highBytes x2 b (ix3 0 l n) = x2 (ix3 b ⟨32 + l.val, by omega⟩ n) := by
  show x2 _ = x2 _
  congr 1; funext a; apply Fin.ext
  fin_cases a <;> simp [highBox, ix3]

/-- The pair of scale rows of group `f` and block `b` holds half the scale of each half of the block. -/
theorem scalePairs_apply (x3 : Vec Ideal S12x14x512 .i8) (x4 : Vec Ideal S14x512 .i16) (f : Fin 8) (b : Fin 14)
    (p : Fin 2) (n : Fin 512) : scalePair x3 x4 b f (ix4 0 0 p n) = halfScale x3 x4 f b p n :=
  scalePair_apply x3 x4 f b p n

/-! ### Quants -/

/-- Row `2 l + h` of the nibbles of field `j` is twice the quant of byte `l` of half `h`. -/
theorem nibbleInts_field (lo hi m : Vec Ideal S1x32x512 .i8) (j : Fin 4) (l : Fin 32) (h : Fin 2) (n : Fin 512) :
    (nibbleInts (fieldWords (wordsOf (F := Ideal) lo) (wordsOf (F := Ideal) hi) (maskWords (F := Ideal) m) j)
        (ix2 ⟨2 * l.val + h.val, by omega⟩ n)).toInt
      = 2 * (quant (if h = 0 then lo (ix3 0 l n) else hi (ix3 0 l n)) (m (ix3 0 l n)) h j).toInt := by
  rw [nibbleInts_apply, fieldWords_apply]
  have hk : (⟨(2 * l.val + h.val) % 8 % 2, by omega⟩ : Fin 2) = h := Fin.ext (by show _ % 2 = h.val; omega)
  have bit : ∀ (v : Vec Ideal S1x32x512 .i8) (i : Nat), i < 8 →
      (v (ix3 0 l n) : BitVec 8).getLsbD i
        = (wordsOf (F := Ideal) v (ix2 ⟨(2 * l.val + h.val) / 8, by omega⟩ n) : BitVec 32).getLsbD
            (8 * ((2 * l.val + h.val) % 8 / 2) + i) := by
    intro v i hi
    rw [wordsOf_bit v ⟨(2 * l.val + h.val) / 8, by omega⟩ n (8 * ((2 * l.val + h.val) % 8 / 2) + i) (by omega) l (by
      show l.val = 4 * ((2 * l.val + h.val) / 8) + (8 * ((2 * l.val + h.val) % 8 / 2) + i) / 8
      omega)]
    congr 1
    rw [Nat.mul_add_mod, Nat.mod_eq_of_lt hi]
  refine (nibble_toInt _ _ _ (if h = 0 then lo (ix3 0 l n) else hi (ix3 0 l n)) (m (ix3 0 l n)) j
    ((2 * l.val + h.val) % 8) (by omega)
    ?_ ?_).trans ?_
  · intro i hi'
    by_cases h0 : h = 0
    · subst h0
      rw [if_pos rfl, if_pos (by show (2 * l.val + 0) % 8 % 2 = 0; omega)]
      exact bit lo i hi'
    · rw [if_neg h0, if_neg (by have : h.val ≠ 0 := fun e => h0 (Fin.ext e); omega)]
      exact bit hi i hi'
  · intro i hi'
    exact bit m i hi'
  · rw [hk]

/-! ### Weights -/

/-- The weights of block `b` of a grid point. -/
def blockWeights (x1 : Vec Ideal S14x32x512 .i8) (x2 : Vec Ideal S14x64x512 .i8) (x3 : Vec Ideal S12x14x512 .i8)
    (x4 : Vec Ideal S14x512 .i16) (b : Fin 14) : FVec Ideal S256x512 .bf16 :=
  weights (F := Ideal) (fieldWords (wordsOf (F := Ideal) (lowBytes x2 b)) (wordsOf (F := Ideal) (highBytes x2 b))
    (maskWords (F := Ideal) (maskBytes x1 b)))
    (scalePair x3 x4 b)

/-- Row `64 j + 2 l + h` of a block's weights, column `n`. -/
theorem blockWeights_apply (x1 : Vec Ideal S14x32x512 .i8) (x2 : Vec Ideal S14x64x512 .i8) (x3 : Vec Ideal S12x14x512 .i8)
    (x4 : Vec Ideal S14x512 .i16) (b : Fin 14) (h : Fin 2) (j : Fin 4) (l : Fin 32) (n : Fin 512) :
    blockWeights x1 x2 x3 x4 b (ix2 ⟨64 * j.val + 2 * l.val + h.val, by omega⟩ n)
      = weightOf (x2 (ix3 b (quantByte h l) n)) (x1 (ix3 b l n))
          (x3 (ix3 (lowerByte (groupOf j l)) b n)) (x3 (ix3 (upperByte (groupOf j l)) b n)) (x4 (ix2 b n))
          h j (groupOf j l) := by
  have hr : (⟨64 * j.val + 2 * l.val + h.val, by omega⟩ : Fin 256)
      = ⟨32 * (groupOf j l).val + (⟨2 * (l.val % 16) + h.val, by omega⟩ : Fin 32).val, by
          have := (groupOf j l).isLt; show _ * _ + (2 * (l.val % 16) + h.val) < 256; omega⟩ :=
    Fin.ext (by show _ = 32 * (2 * j.val + l.val / 16) + (2 * (l.val % 16) + h.val); dsimp only; omega)
  unfold blockWeights
  rw [hr, weights_apply, weightPiece_apply]
  have hj : (⟨(groupOf j l).val / 2, by have := (groupOf j l).isLt; omega⟩ : Fin 4) = j :=
    Fin.ext (by show (2 * j.val + l.val / 16) / 2 = j.val; omega)
  have hR : (⟨32 * ((groupOf j l).val % 2) + (⟨2 * (l.val % 16) + h.val, by omega⟩ : Fin 32).val, by
      show 32 * ((groupOf j l).val % 2) + (2 * (l.val % 16) + h.val) < 64; omega⟩ : Fin 64)
      = ⟨2 * l.val + h.val, by omega⟩ :=
    Fin.ext (by show 32 * ((2 * j.val + l.val / 16) % 2) + (2 * (l.val % 16) + h.val) = 2 * l.val + h.val; omega)
  have hp : (⟨(⟨2 * (l.val % 16) + h.val, by omega⟩ : Fin 32).val % 2, by omega⟩ : Fin 2) = h :=
    Fin.ext (by show (2 * (l.val % 16) + h.val) % 2 = h.val; omega)
  rw [hj, hR, hp, nibbleInts_field, scalePairs_apply, maskByte_apply]
  unfold halfScale weightOf scaleVal
  rw [double_half]
  have hq : (if h = 0 then lowBytes x2 b (ix3 0 l n) else highBytes x2 b (ix3 0 l n))
      = x2 (ix3 b (quantByte h l) n) := by
    by_cases h0 : h = 0
    · subst h0
      rw [if_pos rfl, lowByte_apply]
      congr 2; exact Fin.ext (by show l.val = 32 * 0 + l.val; omega)
    · obtain rfl : h = 1 := by omega
      rw [if_neg h0, highByte_apply]
      congr 2
  rw [← hq]

end Cert.KernelIdeal.Body
end
-- ==== Proof.Block.lean ====
module

public import proofs.«01_k».proof.Proof.Entry
public import Idealize.ShloMosaic.Lib.MatmulPlain

/-!
One grid point's output block in closed form: the activations, permuted by a product with a 0/1 matrix,
times the weights, summed over the fourteen blocks.
-/

@[expose] public section

noncomputable section

namespace Cert.KernelIdeal.Body
open Cert.KernelIdeal Cert.KernelIdeal.Gen Idealize.ShloMosaic Idealize.ShloMosaic.ValueIdx Cert.Proof
open scoped BigOperators

/-! ### The permutation -/

/-- The column of a block that lands in row `r` of the weights' order. -/
def column (r : Fin 256) : Fin 256 := ⟨128 * (r.val % 2) + 32 * (r.val / 64) + r.val / 2 % 32, by omega⟩

/-- The column of the permutation that row `r` selects, computed on words, is the number it should be. -/
theorem column_word (r : Fin 256) :
    128#32 * (BitVec.ofNat 32 r.val &&& 1#32) + 32#32 * IntOp.shrsi .vector (BitVec.ofNat 32 r.val) 6#32
        + (IntOp.shrsi .vector (BitVec.ofNat 32 r.val) 1#32 &&& 31#32)
      = BitVec.ofNat 32 (column r).val := by
  revert r; decide

/-- The kernel's 0/1 matrix. -/
theorem matrix_apply (k r : Fin 256) :
    (k0_pay1 (F := Ideal) (ix2 k r) : EReal) = if k = column r then 1 else 0 := by
  have e : (k0_pay1 (F := Ideal) (ix2 k r) : EReal)
      = Scalar.select (IntOp.cmpi .eq (iota .tc S256x256 32 [0] iota_S256x256_d0_w32 (ix2 k r))
          (128#32 * (iota .tc S256x256 32 [1] iota_S256x256_d1_w32 (ix2 k r) &&& 1#32)
            + 32#32 * IntOp.shrsi .vector (iota .tc S256x256 32 [1] iota_S256x256_d1_w32 (ix2 k r)) 6#32
            + (IntOp.shrsi .vector (iota .tc S256x256 32 [1] iota_S256x256_d1_w32 (ix2 k r)) 1#32 &&& 31#32)))
          (Ideal.ofBits .f32 0x3F800000#32) (Ideal.ofBits .f32 0x00000000#32) := rfl
  rw [e, iota_single_apply, iota_single_apply]
  show Scalar.select (BitVec.ofBool (BitVec.ofNat 32 k.val == 128#32 * (BitVec.ofNat 32 r.val &&& 1#32)
    + 32#32 * IntOp.shrsi .vector (BitVec.ofNat 32 r.val) 6#32
    + (IntOp.shrsi .vector (BitVec.ofNat 32 r.val) 1#32 &&& 31#32))) _ _ = _
  rw [column_word, select_ofBool, bits_one]
  have hz : Ideal.ofBits .f32 0x00000000#32 = (0 : EReal) := by simp [Ideal.ofBits, Ideal.ieee]
  rw [hz]
  by_cases h : k = column r
  · subst h; simp
  · rw [if_neg h, if_neg]
    simp only [beq_iff_eq]
    intro hb
    apply h
    have := congrArg BitVec.toNat hb
    rw [BitVec.toNat_ofNat, BitVec.toNat_ofNat] at this
    exact Fin.ext (by omega)

/-- The accumulator of the permutation product starts at zero. -/
theorem zero_bits (i : S128x256.Idx) : (constant (F := Ideal) S128x256 .f32 0x00000000#32 i : EReal) = 0 := by
  show Ideal.ofBits .f32 0x00000000#32 = 0
  simp [Ideal.ofBits, Ideal.ieee]

/-- The accumulator of the weight product starts at zero. -/
theorem zero_bits' (i : S128x512.Idx) : (constant (F := Ideal) S128x512 .f32 0x00000000#32 i : EReal) = 0 := by
  show Ideal.ofBits .f32 0x00000000#32 = 0
  simp [Ideal.ofBits, Ideal.ieee]

/-- The product with the 0/1 matrix moves columns and changes nothing else. -/
theorem permuted_apply (x : Vec Ideal S128x256 .bf16) (s : Fin 128) (r : Fin 256) :
    (permuted (F := Ideal) x (ix2 s r) : EReal) = x (ix2 s (column r)) := by
  have e : (permuted (F := Ideal) x (ix2 s r) : EReal)
      = shapeCast S128x256 (FloatOps.matmul (F := Ideal) (DotDims.plain 128 256 256) none
          (shapeCast S128x256 x shapeCasts_S128x256_S128x256) (k0_pay1 (F := Ideal))
          (constant S128x256 .f32 0x00000000#32)) shapeCasts_S128x256_S128x256 (ix2 s r) := rfl
  rw [e, shapeCast_apply _ _ _ (ix2 s r) rfl]
  rw [Ideal.matmul_plain_apply, zero_bits, zero_add]
  rw [Finset.sum_eq_single (column r)]
  · rw [matrix_apply, if_pos rfl, mul_one, shapeCast_apply _ _ _ (ix2 s (column r)) rfl]
  · intro k _ hk
    rw [matrix_apply, if_neg hk, mul_zero]
  · intro h
    exact absurd (Finset.mem_univ _) h

/-- The columns of block `b` of the activations. -/
def actCols (x : Vec Ideal S128x3584 .bf16) (b : Fin 14) : Vec Ideal S128x256 .bf16 := View.ld x (actBox b)

/-- The activations of block `b`, read at a row and a column of the block. -/
theorem actCols_apply (x : Vec Ideal S128x3584 .bf16) (b : Fin 14) (s : Fin 128) (r : Fin 256) :
    actCols x b (ix2 s r) = x (ix2 s ⟨256 * b.val + r.val, by omega⟩) := by
  show x _ = x _
  congr 1; funext a; apply Fin.ext
  fin_cases a <;> simp [actBox, ix2]

/-- What the activation scratch holds once its fourteen blocks are stored. -/
theorem actScratch_apply (x0 : Vec Ideal S128x3584 .bf16) (b : Fin 14) (s : Fin 128) (r : Fin 256) :
    View.canon (actPieces (F := Ideal) x0) (ix2 s ⟨256 * b.val + r.val, by omega⟩)
      = x0 (ix2 s ⟨256 * b.val + (column r).val, by omega⟩) := by
  have hcol : ∀ c : Fin 3584, 256 * (c.val / 256) + (column ⟨c.val % 256, by omega⟩).val < 3584 := by
    intro c; have := (column ⟨c.val % 256, by omega⟩).isLt; omega
  refine (View.canon_apply_of_pieces (Val := Elt Ideal) (e := .bf16)
    (fun y : S128x3584.Idx => (x0 (ix2 (y 0) ⟨_, hcol (y 1)⟩) : EReal)) _ ?_ _ ?_).trans ?_
  · have all : ∀ b : Fin 14, ∀ x : (actBox b).shape.Idx, permuted (F := Ideal) (actCols x0 b) x
        = x0 (ix2 ((actBox b).emb x 0) ⟨_, hcol ((actBox b).emb x 1)⟩) := by
      intro b x
      have hx : x = ix2 (x 0) (x 1) := by
        funext a; fin_cases a <;> rfl
      refine (congrArg _ hx).trans ((permuted_apply _ (x 0) (x 1)).trans ((actCols_apply x0 b _ _).trans ?_))
      have h1 : (x 1).val < 256 := (x 1).isLt
      have e0 : (actBox b).emb x 0 = x 0 := Fin.ext (by
        rw [Rect.emb_apply]; show 0 + 1 * (x 0).val = (x 0).val; omega)
      have e1 : ((actBox b).emb x 1).val = 256 * b.val + (x 1).val := by
        rw [Rect.emb_apply]; show 256 * b.val + 1 * (x 1).val = _; omega
      rw [e0]
      congr 2
      apply Fin.ext
      have e2 : (⟨((actBox b).emb x 1).val % 256, by omega⟩ : Fin 256) = x 1 := Fin.ext (by
        show ((actBox b).emb x 1).val % 256 = (x 1).val; rw [e1]; omega)
      show 256 * b.val + (column (x 1)).val = 256 * (((actBox b).emb x 1).val / 256) + (column _).val
      rw [e2, e1]
      congr 2
      omega
    intro q hq
    simp only [actPieces, List.mem_cons, List.not_mem_nil, or_false] at hq
    rcases hq with rfl | rfl | rfl | rfl | rfl | rfl | rfl | rfl | rfl | rfl | rfl | rfl | rfl | rfl <;> exact all _
  · refine ⟨actPiece x0 b, ?_, ?_⟩
    · fin_cases b <;> simp [actPieces]
    · show ix2 s _ ∈ (actBox b).set
      unfold actBox
      rw [Rect.mem_set_unit]
      intro a
      fin_cases a
      · exact ⟨Nat.zero_le _, by show s.val < 0 + 128; omega⟩
      · exact ⟨Nat.le_add_right _ _, by show 256 * b.val + r.val < 256 * b.val + 256; omega⟩
  · show x0 _ = x0 _
    congr 2
    apply Fin.ext
    have e2 : (⟨(256 * b.val + r.val) % 256, by omega⟩ : Fin 256) = r := Fin.ext (by
      show (256 * b.val + r.val) % 256 = r.val; omega)
    show 256 * ((256 * b.val + r.val) / 256) + (column _).val = _
    rw [e2]
    congr 2
    omega

/-! ### The sum -/

/-- A sum over the 256 rows, by half, field and byte. -/
theorem sum_rows {M : Type} [AddCommMonoid M] (F : Fin 256 → M) :
    ∑ r, F r = ∑ h : Fin 2, ∑ j : Fin 4, ∑ l : Fin 32, F ⟨64 * j.val + 2 * l.val + h.val, by omega⟩ := by
  rw [← Fintype.sum_prod_type', ← Fintype.sum_prod_type']
  refine Fintype.sum_equiv
    { toFun := fun r => ((⟨r.val % 2, by omega⟩, ⟨r.val / 64, by omega⟩), ⟨r.val / 2 % 32, by omega⟩)
      invFun := fun p => ⟨64 * p.1.2.val + 2 * p.2.val + p.1.1.val, by omega⟩
      left_inv := ?_, right_inv := ?_ } _ _ ?_
  · intro r; apply Fin.ext; dsimp only; omega
  · rintro ⟨⟨h, j⟩, l⟩
    refine Prod.ext (Prod.ext ?_ ?_) ?_ <;> apply Fin.ext <;> dsimp only <;> omega
  · intro r; congr 1; apply Fin.ext
    show r.val = 64 * (r.val / 64) + 2 * (r.val / 2 % 32) + r.val % 2
    omega

/-- One term of an output entry of a grid point. -/
def pointTerm (x0 : Vec Ideal S128x3584 .bf16) (x1 : Vec Ideal S14x32x512 .i8) (x2 : Vec Ideal S14x64x512 .i8)
    (x3 : Vec Ideal S12x14x512 .i8) (x4 : Vec Ideal S14x512 .i16) (s : Fin 128) (n : Fin 512) (b : Fin 14)
    (h : Fin 2) (j : Fin 4) (l : Fin 32) : EReal :=
  x0 (ix2 s (actIndex b h j l)) * weightOf (x2 (ix3 b (quantByte h l) n)) (x1 (ix3 b l n))
    (x3 (ix3 (lowerByte (groupOf j l)) b n)) (x3 (ix3 (upperByte (groupOf j l)) b n)) (x4 (ix2 b n))
    h j (groupOf j l)

/-- The contribution of one block. -/
theorem part_apply (x0 : Vec Ideal S128x3584 .bf16) (x1 : Vec Ideal S14x32x512 .i8) (x2 : Vec Ideal S14x64x512 .i8)
    (x3 : Vec Ideal S12x14x512 .i8) (x4 : Vec Ideal S14x512 .i16) (s : Fin 128) (n : Fin 512) (b : Fin 14) :
    (part (F := Ideal) (View.canon (actPieces (F := Ideal) x0)) x1 x2 (View.canon (scalePieces (F := Ideal) x3 x4)) b (ix2 s n) : EReal)
      = ∑ h : Fin 2, ∑ j : Fin 4, ∑ l : Fin 32, pointTerm x0 x1 x2 x3 x4 s n b h j l := by
  have e : (part (F := Ideal) (View.canon (actPieces (F := Ideal) x0)) x1 x2 (View.canon (scalePieces (F := Ideal) x3 x4)) b (ix2 s n) : EReal)
      = FloatOps.matmul (F := Ideal) (DotDims.plain 128 256 512) none (actCols (View.canon (actPieces (F := Ideal) x0)) b)
          (blockWeights x1 x2 x3 x4 b) (constant S128x512 .f32 0x00000000#32) (ix2 s n) := rfl
  rw [e, Ideal.matmul_plain_apply, zero_bits', zero_add, sum_rows]
  refine Finset.sum_congr rfl fun h _ => Finset.sum_congr rfl fun j _ => Finset.sum_congr rfl fun l _ => ?_
  rw [actCols_apply, actScratch_apply, blockWeights_apply]
  unfold pointTerm
  congr 2
  refine congrArg (ix2 s) (Fin.ext ?_)
  show 256 * b.val + (128 * ((64 * j.val + 2 * l.val + h.val) % 2) + 32 * ((64 * j.val + 2 * l.val + h.val) / 64)
    + (64 * j.val + 2 * l.val + h.val) / 2 % 32) = 256 * b.val + 128 * h.val + 32 * j.val + l.val
  omega

/-- An entry of a grid point's output block. -/
theorem outBlock_apply (x0 : Vec Ideal S128x3584 .bf16) (x1 : Vec Ideal S14x32x512 .i8) (x2 : Vec Ideal S14x64x512 .i8)
    (x3 : Vec Ideal S12x14x512 .i8) (x4 : Vec Ideal S14x512 .i16) (s : Fin 128) (n : Fin 512) :
    (outBlock (F := Ideal) (View.canon (actPieces (F := Ideal) x0)) x1 x2 x3 x4 (ix2 s n) : EReal)
      = ∑ b : Fin 14, ∑ h : Fin 2, ∑ j : Fin 4, ∑ l : Fin 32, pointTerm x0 x1 x2 x3 x4 s n b h j l := by
  have e : ∀ p : Fin 14 → FVec Ideal S128x512 .f32,
      (truncf (F := Ideal) .bf16 (sum14 p) bitsLt_bf16_f32 (ix2 s n) : EReal) = ∑ b : Fin 14, (p b (ix2 s n) : EReal) := by
    intro p
    simp only [Fin.sum_univ_succ, Fin.sum_univ_zero, add_zero, ← add_assoc]
    rfl
  unfold outBlock
  rw [e]
  exact Finset.sum_congr rfl fun b _ => part_apply x0 x1 x2 x3 x4 s n b

end Cert.KernelIdeal.Body
end
-- ==== Proof.Array.lean ====
module

public import proofs.«01_k».proof.Proof.Opened
public import proofs.«01_k».proof.Proof.Block

/-!
The kernel's whole output array: grid point `t` stores columns `512 t … 512 t + 511`, from the same
columns of every weight array, and carries the permuted activations in scratch.
-/

@[expose] public section

noncomputable section

namespace Cert.KernelIdeal.Body
open Cert.KernelIdeal Cert.KernelIdeal.Gen Cert.KernelIdeal.Value Idealize.ShloMosaic Idealize.ShloMosaic.TcCoe
open Idealize.ShloMosaic.ValueIdx Cert.Proof
open scoped BigOperators

variable (m : (ℓ : Loc nD τ sig) → Buf (Elt Ideal) ℓ) (c : Dev nD)

/-! ### The arrays the grid reads -/

/-- The activations reach the grid reshaped to a matrix. -/
theorem V_acts : V m c main_v0 = (shapeCast S128x3584 (m ((c : Thread nD τ).loc main_arg0)) shapeCasts_S1x128x3584_S128x3584 :
    Vec Ideal S128x3584 .bf16) := rfl

/-- The masks reach the grid with their last two axes swapped. -/
theorem V_masks : V m c main_v1 = (transpose S14x32x18944 [0, 2, 1] (m ((c : Thread nD τ).loc main_arg1))
    transposes_S14x18944x32_S14x32x18944_0_2_1 : Vec Ideal S14x32x18944 .i8) := rfl

/-- The quants reach the grid with their last two axes swapped. -/
theorem V_quants : V m c main_v2 = (transpose S14x64x18944 [0, 2, 1] (m ((c : Thread nD τ).loc main_arg2))
    transposes_S14x18944x64_S14x64x18944_0_2_1 : Vec Ideal S14x64x18944 .i8) := rfl

/-- The packed scales reach the grid with the byte axis first. -/
theorem V_scales : V m c main_v3 = (transpose S12x14x18944 [2, 0, 1] (m ((c : Thread nD τ).loc main_arg3))
    transposes_S14x18944x12_S12x14x18944_2_0_1 : Vec Ideal S12x14x18944 .i8) := rfl

/-- Which blocks grid point `t` reads. -/
theorem indices : ∀ t : Fin cfg0.N, win0_0.index t = ![0, 0] ∧ win0_1.index t = ![0, 0, t.val]
    ∧ win0_2.index t = ![0, 0, t.val] ∧ win0_3.index t = ![0, 0, t.val] ∧ win0_4.index t = ![0, t.val] :=
  (by decide +kernel : ∀ t : Fin grid0.N, _)

/-- The grid has 37 points. -/
theorem points (t : Fin cfg0.N) : t.val < 37 := lt_of_lt_of_eq t.isLt (show cfg0.N = 37 from N_0)

/-- Column `n` of grid point `t`. -/
def colOf (t : Fin cfg0.N) (n : Fin 512) : Fin 18944 := ⟨512 * t.val + n.val, by have := points t; omega⟩

/-- The activations as the kernel takes them. -/
def acts : Vec Ideal S128x3584 .bf16 := V m c main_v0

/-- The activations at row `s`, column `k`, from the argument. -/
theorem acts_apply (s : Fin 128) (k : Fin 3584) :
    acts m c (ix2 s k) = (m ((c : Thread nD τ).loc main_arg0) : Vec Ideal S1x128x3584 .bf16) (ix3 0 s k) := by
  unfold acts
  rw [V_acts]
  exact shapeCast_apply _ _ _ _ (by
    show (S1x128x3584.rowMajor (ix3 0 s k)).val = (S128x3584.rowMajor (ix2 s k)).val
    rw [Shape.rowMajor_val_three, Shape.rowMajor_val_two]; simp)

/-- Every grid point reads all the activations. -/
theorem block_acts (t : Fin cfg0.N) : (iblk m c 0 t : Vec Ideal S128x3584 .bf16) = acts m c := by
  funext y
  show (V m c main_v0 : Vec Ideal S128x3584 .bf16) (((cfg0.win 0).blk t).view.emb y) = V m c main_v0 y
  congr 1
  have h := (indices t).1
  have h0 : (((cfg0.win 0).blk t).view.emb y 0).val = win0_0.index t (0 : Fin 2) * 128 + 1 * (y 0).val := rfl
  have h1 : (((cfg0.win 0).blk t).view.emb y 1).val = win0_0.index t (1 : Fin 2) * 3584 + 1 * (y 1).val := rfl
  rw [h] at h0 h1
  funext a
  apply Fin.ext
  fin_cases a
  · refine h0.trans ?_
    show 0 * 128 + 1 * (y 0).val = (y 0).val
    omega
  · refine h1.trans ?_
    show 0 * 3584 + 1 * (y 1).val = (y 1).val
    omega

/-- The mask bytes of grid point `t`. -/
theorem block_masks (t : Fin cfg0.N) (b : Fin 14) (l : Fin 32) (n : Fin 512) :
    (iblk m c 1 t : Vec Ideal S14x32x512 .i8) (ix3 b l n)
      = (m ((c : Thread nD τ).loc main_arg1) : Vec Ideal S14x18944x32 .i8) (ix3 b (colOf t n) l) := by
  have h := (indices t).2.1
  have h0 : (((cfg0.win 1).blk t).view.emb (ix3 b l n) 0).val = win0_1.index t (0 : Fin 3) * 14 + 1 * b.val := rfl
  have h1 : (((cfg0.win 1).blk t).view.emb (ix3 b l n) 1).val = win0_1.index t (1 : Fin 3) * 32 + 1 * l.val := rfl
  have h2 : (((cfg0.win 1).blk t).view.emb (ix3 b l n) 2).val = win0_1.index t (2 : Fin 3) * 512 + 1 * n.val := rfl
  rw [h] at h0 h1 h2
  have he : ((cfg0.win 1).blk t).view.emb (ix3 b l n) = (ix3 b l (colOf t n) : S14x32x18944.Idx) := by
    funext a
    apply Fin.ext
    fin_cases a
    · refine h0.trans ?_
      show 0 * 14 + 1 * b.val = b.val
      omega
    · refine h1.trans ?_
      show 0 * 32 + 1 * l.val = l.val
      omega
    · refine h2.trans ?_
      show t.val * 512 + 1 * n.val = 512 * t.val + n.val
      omega
  show (V m c main_v1 : Vec Ideal S14x32x18944 .i8) (((cfg0.win 1).blk t).view.emb (ix3 b l n)) = _
  rw [he, V_masks]
  exact transpose_apply _ _ _ _ _ (by intro a; fin_cases a <;> rfl)

/-- The quant bytes of grid point `t`. -/
theorem block_quants (t : Fin cfg0.N) (b : Fin 14) (l : Fin 64) (n : Fin 512) :
    (iblk m c 2 t : Vec Ideal S14x64x512 .i8) (ix3 b l n)
      = (m ((c : Thread nD τ).loc main_arg2) : Vec Ideal S14x18944x64 .i8) (ix3 b (colOf t n) l) := by
  have h := (indices t).2.2.1
  have h0 : (((cfg0.win 2).blk t).view.emb (ix3 b l n) 0).val = win0_2.index t (0 : Fin 3) * 14 + 1 * b.val := rfl
  have h1 : (((cfg0.win 2).blk t).view.emb (ix3 b l n) 1).val = win0_2.index t (1 : Fin 3) * 64 + 1 * l.val := rfl
  have h2 : (((cfg0.win 2).blk t).view.emb (ix3 b l n) 2).val = win0_2.index t (2 : Fin 3) * 512 + 1 * n.val := rfl
  rw [h] at h0 h1 h2
  have he : ((cfg0.win 2).blk t).view.emb (ix3 b l n) = (ix3 b l (colOf t n) : S14x64x18944.Idx) := by
    funext a
    apply Fin.ext
    fin_cases a
    · refine h0.trans ?_
      show 0 * 14 + 1 * b.val = b.val
      omega
    · refine h1.trans ?_
      show 0 * 64 + 1 * l.val = l.val
      omega
    · refine h2.trans ?_
      show t.val * 512 + 1 * n.val = 512 * t.val + n.val
      omega
  show (V m c main_v2 : Vec Ideal S14x64x18944 .i8) (((cfg0.win 2).blk t).view.emb (ix3 b l n)) = _
  rw [he, V_quants]
  exact transpose_apply _ _ _ _ _ (by intro a; fin_cases a <;> rfl)

/-- The scale bytes of grid point `t`. -/
theorem block_scales (t : Fin cfg0.N) (k : Fin 12) (b : Fin 14) (n : Fin 512) :
    (iblk m c 3 t : Vec Ideal S12x14x512 .i8) (ix3 k b n)
      = (m ((c : Thread nD τ).loc main_arg3) : Vec Ideal S14x18944x12 .i8) (ix3 b (colOf t n) k) := by
  have h := (indices t).2.2.2.1
  have h0 : (((cfg0.win 3).blk t).view.emb (ix3 k b n) 0).val = win0_3.index t (0 : Fin 3) * 12 + 1 * k.val := rfl
  have h1 : (((cfg0.win 3).blk t).view.emb (ix3 k b n) 1).val = win0_3.index t (1 : Fin 3) * 14 + 1 * b.val := rfl
  have h2 : (((cfg0.win 3).blk t).view.emb (ix3 k b n) 2).val = win0_3.index t (2 : Fin 3) * 512 + 1 * n.val := rfl
  rw [h] at h0 h1 h2
  have he : ((cfg0.win 3).blk t).view.emb (ix3 k b n) = (ix3 k b (colOf t n) : S12x14x18944.Idx) := by
    funext a
    apply Fin.ext
    fin_cases a
    · refine h0.trans ?_
      show 0 * 12 + 1 * k.val = k.val
      omega
    · refine h1.trans ?_
      show 0 * 14 + 1 * b.val = b.val
      omega
    · refine h2.trans ?_
      show t.val * 512 + 1 * n.val = 512 * t.val + n.val
      omega
  show (V m c main_v3 : Vec Ideal S12x14x18944 .i8) (((cfg0.win 3).blk t).view.emb (ix3 k b n)) = _
  rw [he, V_scales]
  exact transpose_apply _ _ _ _ _ (by intro a; fin_cases a <;> rfl)

/-- The super-scale words of grid point `t`. -/
theorem block_supers (t : Fin cfg0.N) (b : Fin 14) (n : Fin 512) :
    (iblk m c 4 t : Vec Ideal S14x512 .i16) (ix2 b n)
      = (m ((c : Thread nD τ).loc main_arg4) : Vec Ideal S14x18944 .i16) (ix2 b (colOf t n)) := by
  have h := (indices t).2.2.2.2
  have h0 : (((cfg0.win 4).blk t).view.emb (ix2 b n) 0).val = win0_4.index t (0 : Fin 2) * 14 + 1 * b.val := rfl
  have h1 : (((cfg0.win 4).blk t).view.emb (ix2 b n) 1).val = win0_4.index t (1 : Fin 2) * 512 + 1 * n.val := rfl
  rw [h] at h0 h1
  have he : ((cfg0.win 4).blk t).view.emb (ix2 b n) = (ix2 b (colOf t n) : S14x18944.Idx) := by
    funext a
    apply Fin.ext
    fin_cases a
    · refine h0.trans ?_
      show 0 * 14 + 1 * b.val = b.val
      omega
    · refine h1.trans ?_
      show t.val * 512 + 1 * n.val = 512 * t.val + n.val
      omega
  show (V m c main_arg4 : Vec Ideal S14x18944 .i16) (((cfg0.win 4).blk t).view.emb (ix2 b n)) = _
  rw [he, V_main_arg4]

/-! ### What each grid point leaves -/

/-- Every grid point leaves the permuted activations in scratch. -/
theorem scratch_after (t : Fin cfg0.N) :
    (outsAt0 m c t.val t.isLt).2 = View.canon (actPieces (F := Ideal) (acts m c)) := by
  obtain ⟨n, hn⟩ := t
  induction n with
  | zero =>
    rw [outsAt0_A m c ⟨0, hn⟩ rfl]
    dsimp only
    rw [scratch_first, block_acts]
  | succ n ih =>
    have hN := points ⟨n + 1, hn⟩
    rw [outsAt0_B m c ⟨n + 1, hn⟩ (by dsimp only at hN ⊢; omega)]
    exact ih (Nat.lt_of_succ_lt hn)

/-- Every grid point stores the output block of its input blocks. -/
theorem out_after (t : Fin cfg0.N) :
    (outsAt0 m c t.val t.isLt).1
      = outBlock (F := Ideal) (View.canon (actPieces (F := Ideal) (acts m c))) (iblk m c 1 t) (iblk m c 2 t) (iblk m c 3 t)
          (iblk m c 4 t) := by
  by_cases h0 : t.val % 37 = 0
  · rw [outsAt0_A m c t h0]
    dsimp only
    rw [out_first, block_acts]
  · rw [outsAt0_B m c t h0]
    dsimp only
    rw [out_later]
    have hN := points t
    exact congrArg (fun z => outBlock (F := Ideal) z (iblk m c 1 t) (iblk m c 2 t) (iblk m c 3 t) (iblk m c 4 t))
      (scratch_after m c ⟨t.val - 1, Nat.lt_of_le_of_lt (Nat.sub_le _ _) t.isLt⟩)

/-- The kernel's output array is the product. -/
theorem G5_apply (s : Fin 128) (n : Fin 18944) :
    (G5 m c (ix2 s n : S128x18944.Idx) : EReal)
      = entry (m ((c : Thread nD τ).loc main_arg0)) (m ((c : Thread nD τ).loc main_arg1)) (m ((c : Thread nD τ).loc main_arg2))
          (m ((c : Thread nD τ).loc main_arg3)) (m ((c : Thread nD τ).loc main_arg4)) s n := by
  have hp : pt5Of (ix2 s n : S128x18944.Idx) = n.val / 512 := by
    show 37 * (s.val / 128 - 0) + 1 * (n.val / 512 - 0) = _
    omega
  have hlt : pt5Of (ix2 s n : S128x18944.Idx) < cfg0.N := by
    rw [hp, show cfg0.N = 37 from N_0]; omega
  have hl : loc5Of (ix2 s n : S128x18944.Idx) = (ix2 s ⟨n.val % 512, by omega⟩ : S128x512.Idx) := by
    funext a
    apply Fin.ext
    fin_cases a
    · show s.val % 128 = s.val
      omega
    · rfl
  unfold G5
  rw [dif_pos hlt, ← outsAt0_sweep m c _ hlt, hl, out_after m c ⟨_, hlt⟩, outBlock_apply]
  have hn : colOf ⟨_, hlt⟩ ⟨n.val % 512, by omega⟩ = n := Fin.ext (by
    show 512 * pt5Of (ix2 s n : S128x18944.Idx) + n.val % 512 = n.val
    rw [hp]; omega)
  have terms : ∀ b h j l, pointTerm (acts m c) (iblk m c 1 ⟨_, hlt⟩) (iblk m c 2 ⟨_, hlt⟩) (iblk m c 3 ⟨_, hlt⟩)
      (iblk m c 4 ⟨_, hlt⟩) s ⟨n.val % 512, by omega⟩ b h j l
      = term (m ((c : Thread nD τ).loc main_arg0)) (m ((c : Thread nD τ).loc main_arg1)) (m ((c : Thread nD τ).loc main_arg2))
          (m ((c : Thread nD τ).loc main_arg3)) (m ((c : Thread nD τ).loc main_arg4)) s n b h j l := by
    intro b h j l
    unfold pointTerm term
    rw [acts_apply, block_masks, block_quants, block_scales, block_scales, block_supers, hn]
  unfold entry
  simp only [terms]

end Cert.KernelIdeal.Body
end
-- ==== Proof.RefScales.lean ====
module

public import proofs.«01_k».proof.Proof.Array
public import proofs.«01_k».proof.Proof.Gen.ReferenceIdeal.Read

/-!
The reference's scales, entry by entry: the six-bit scale of a group, its product with the float16
super-scale, and the row of scales of the 32 bytes of one field.
-/

@[expose] public section

noncomputable section

namespace Cert.ReferenceIdeal.Read
open Cert.ReferenceIdeal Cert.ReferenceIdeal.Gen Idealize.ShloMosaic Idealize.ShloMosaic.ValueIdx Cert.Proof

/-! ### Words -/

/-- A host arithmetic right shift by a literal below the width. -/
theorem shrsi_ofNat (x : BitVec 32) (k : Nat) (hk : k < 32) :
    IntOp.shrsi .host x (BitVec.ofNat 32 k) = x.sshiftRight k := by
  have e : (BitVec.ofNat 32 k).toNat = k := by rw [BitVec.toNat_ofNat]; omega
  unfold IntOp.shrsi
  rw [if_pos (by rw [e]; exact hk)]
  exact congrArg x.sshiftRight e

/-- A host left shift by four. -/
theorem shli_four (x : BitVec 32) : IntOp.shli .host x 4#32 = x <<< 4 := rfl

/-- The shift of the upper bits of row `r` of the four. -/
theorem two_mul_row (r : Fin 4) : IntOp.muli 2#32 (BitVec.ofNat 32 r.val) = BitVec.ofNat 32 (2 * r.val) := by
  fin_cases r <;> rfl

variable (x3 : S14x18944x12.Idx → BitVec 8) (x4 : S14x18944.Idx → BitVec 16)

/-- The group number `8 h + f`. -/
def groupNo (h : Fin 2) (f : Fin 8) : Fin 16 := ⟨8 * h.val + f.val, by omega⟩

/-! ### The six-bit scales -/

/-- The lower four bits of the scales of groups 0 to 7: the lower half of a byte. -/
theorem low_first (b : Fin 14) (n : Fin 18944) (f : Fin 8) :
    (val_main_v3 (F := Ideal) x3 (ix3 b n f) : BitVec 32) = (x3 (ix3 b n (lowerByte f))).setWidth 32 &&& 15#32 := by
  rw [val_main_v3_apply, val_main_v1_apply, val_main_v0_apply]
  have e : idx_main_v1 (ix3 b n f : S14x18944x8.Idx) = ix3 b n (lowerByte f) := by
    funext a; apply Fin.ext; fin_cases a <;> rfl
  rw [e]
  rfl

/-- The lower four bits of the scales of groups 8 to 15: the upper half of a byte. -/
theorem low_second (b : Fin 14) (n : Fin 18944) (f : Fin 8) :
    (val_main_v6 (F := Ideal) x3 (ix3 b n f) : BitVec 32)
      = ((x3 (ix3 b n (lowerByte f))).setWidth 32).sshiftRight 4 := by
  rw [val_main_v6_apply, val_main_v4_apply, val_main_v0_apply]
  have e : idx_main_v4 (ix3 b n f : S14x18944x8.Idx) = ix3 b n (lowerByte f) := by
    funext a; apply Fin.ext; fin_cases a <;> rfl
  rw [e]
  exact shrsi_ofNat _ 4 (by decide)

/-- The lower four bits of the scale of group `8 h + f`. -/
theorem low_apply (b : Fin 14) (n : Fin 18944) (h : Fin 2) (f : Fin 8) :
    (val_main_v7 (F := Ideal) x3 (ix3 b n (groupNo h f)) : BitVec 32)
      = if h = 0 then (x3 (ix3 b n (lowerByte f))).setWidth 32 &&& 15#32
        else ((x3 (ix3 b n (lowerByte f))).setWidth 32).sshiftRight 4 := by
  have key : (val_main_v7 (F := Ideal) x3 (ix3 b n (groupNo h f)) : BitVec 32)
      = (fun k : Fin 2 => if k = 0 then val_main_v3 (F := Ideal) x3 else val_main_v6 (F := Ideal) x3) h (ix3 b n f) :=
    concatenate_ofFn_apply (t := S14x18944x16) (s₁ := S14x18944x8) 2
      (fun k : Fin 2 => if k = 0 then val_main_v3 (F := Ideal) x3 else val_main_v6 (F := Ideal) x3)
      concatenates_S14x18944x8_S14x18944x8_S14x18944x16_d2 rfl 8 rfl (ix3 b n (groupNo h f)) h
      (by show (8 * h.val + f.val) / 8 = h.val; omega) (ix3 b n f)
      (by show f.val = (8 * h.val + f.val) % 8; omega)
      (by intro a ha; fin_cases a
          · rfl
          · rfl
          · exact absurd rfl ha)
  rw [key]
  by_cases h0 : h = 0
  · simp only [if_pos h0]; exact low_first x3 b n f
  · simp only [if_neg h0]; exact low_second x3 b n f

/-- The upper two bits, as the four-by-four array they are cut out in. -/
theorem high_square (b : Fin 14) (n : Fin 18944) (r c : Fin 4) :
    (val_main_v19 (F := Ideal) x3 (ix4 b n r c) : BitVec 32)
      = ((x3 (ix3 b n ⟨8 + c.val, by omega⟩)).setWidth 32).sshiftRight (2 * r.val) &&& 3#32 := by
  rw [val_main_v19_apply, val_main_v17_apply, val_main_v15_apply, val_main_v9_apply, val_main_v8_apply, val_main_v0_apply]
  have e : idx_main_v8 (idx_main_v9 (idx_main_v15 (ix4 b n r c : S14x18944x4x4.Idx))) = ix3 b n ⟨8 + c.val, by omega⟩ := by
    funext a; apply Fin.ext; fin_cases a <;> rfl
  have s : (val_main_v16 (F := Ideal) (ix4 b n r c) : BitVec 32) = BitVec.ofNat 32 (2 * r.val) := by
    rw [val_main_v16_apply, val_main_v14_apply, val_main_v13_apply, val_main_v12_apply]
    exact two_mul_row r
  rw [e, s]
  exact congrArg (· &&& 3#32) (shrsi_ofNat _ _ (by omega))

/-- The upper two bits of the scale of group `8 h + f`. -/
theorem high_apply (b : Fin 14) (n : Fin 18944) (h : Fin 2) (f : Fin 8) :
    (val_main_v20 (F := Ideal) x3 (ix3 b n (groupNo h f)) : BitVec 32)
      = ((x3 (ix3 b n (upperByte f))).setWidth 32).sshiftRight (2 * ((8 * h.val + f.val) / 4)) &&& 3#32 := by
  have key : (val_main_v20 (F := Ideal) x3 (ix3 b n (groupNo h f)) : BitVec 32)
      = val_main_v19 (F := Ideal) x3 (ix4 b n (⟨(8 * h.val + f.val) / 4, by omega⟩ : Fin 4) (⟨f.val % 4, by omega⟩ : Fin 4)) := by
    unfold val_main_v20
    refine shapeCast_apply _ _ _ _ ?_
    rw [Shape.rowMajor_val_four, Shape.rowMajor_val_three]
    show ((b.val * 18944 + n.val) * 4 + (8 * h.val + f.val) / 4) * 4 + f.val % 4
      = (b.val * 18944 + n.val) * 16 + (8 * h.val + f.val)
    omega
  rw [key, high_square]
  rfl

/-- The six-bit scale of group `8 h + f`. -/
theorem scale_bits (b : Fin 14) (n : Fin 18944) (h : Fin 2) (f : Fin 8) :
    (val_main_v23 (F := Ideal) x3 (ix3 b n (groupNo h f)) : BitVec 32)
      = scaleBits (x3 (ix3 b n (lowerByte f))) (x3 (ix3 b n (upperByte f))) h f := by
  rw [val_main_v23_apply, val_main_v22_apply, low_apply, high_apply]
  rfl

/-! ### The scales -/

/-- The super-scale decoded from its word. -/
theorem super_apply (i : S14x18944.Idx) : (val_main_v57 (F := Ideal) x4 i : EReal) = half (x4 i) := by
  rw [← refHalf_eq]
  rfl

/-- The scale of group `8 h + f`. -/
theorem scale_apply (b : Fin 14) (n : Fin 18944) (h : Fin 2) (f : Fin 8) :
    (val_main_v64 (F := Ideal) x3 x4 (ix3 b n (groupNo h f)) : EReal)
      = scaleVal (x3 (ix3 b n (lowerByte f))) (x3 (ix3 b n (upperByte f))) (x4 (ix2 b n)) h f := by
  have e : idx_main_v58 (idx_main_v62 (ix3 b n (groupNo h f) : S14x18944x16.Idx)) = ix2 b n := by
    funext a; apply Fin.ext; fin_cases a <;> rfl
  have s : (val_main_v62 (F := Ideal) x4 (ix3 b n (groupNo h f)) : EReal) = half (x4 (ix2 b n)) := by
    rw [val_main_v62_apply, val_main_v58_apply, e]
    exact super_apply x4 _
  have i : (val_main_v60 (F := Ideal) x3 (ix3 b n (groupNo h f)) : BitVec 32)
      = scaleBits (x3 (ix3 b n (lowerByte f))) (x3 (ix3 b n (upperByte f))) h f - 32#32 := by
    rw [val_main_v60_apply, scale_bits]
    rfl
  have p : (val_main_v64 (F := Ideal) x3 x4 (ix3 b n (groupNo h f)) : EReal)
      = (val_main_v62 (F := Ideal) x4 (ix3 b n (groupNo h f)) : EReal)
        * (((val_main_v60 (F := Ideal) x3 (ix3 b n (groupNo h f)) : BitVec 32).toInt : ℝ) : EReal) := rfl
  rw [p, s, i]
  rfl

end Cert.ReferenceIdeal.Read
end
-- ==== Proof.RefProducts.lean ====
module

public import proofs.«01_k».proof.Proof.RefScales
public import Idealize.ShloMosaic.Lib.ValueIdxRank6
public import Idealize.ShloMosaic.Lib.Pointwise.Contract

/-!
One of the reference's eight products, for half `h` and field `j`: its quants, its weights, its
activations, and the product entry by entry. The eight products of the program are this one at the
eight pairs.
-/

@[expose] public section

noncomputable section

namespace Cert.ReferenceIdeal.Read
open Cert.ReferenceIdeal Cert.ReferenceIdeal.Gen Idealize.ShloMosaic.ValueIdx Cert.Proof
open Idealize.ShloMosaic hiding ix1 ix2 ix3 ix4 ix5 ix6
open scoped BigOperators

variable (x0 : S1x128x3584.Idx → EReal) (x1 : S14x18944x32.Idx → BitVec 8) (x2 : S14x18944x64.Idx → BitVec 8)
  (x3 : S14x18944x12.Idx → BitVec 8) (x4 : S14x18944.Idx → BitVec 16)

/-! ### The stages of one product -/

/-- Half `h` lies within the quants. -/
theorem half_slices (h : Fin 2) : S14x18944x2x32.Slices ![0, 0, h.val, 0] S14x18944x1x32 := by
  fin_cases h
  · exact slices_S14x18944x2x32_S14x18944x1x32_0_0_0_0
  · exact slices_S14x18944x2x32_S14x18944x1x32_0_0_1_0

/-- The scale pair of half `h`, field `j` lies within the scales. -/
theorem scale_slices (h : Fin 2) (j : Fin 4) : S14x18944x8x2.Slices ![0, 0, 4 * h.val + j.val, 0] S14x18944x1x2 := by
  fin_cases h <;> fin_cases j
  · exact slices_S14x18944x8x2_S14x18944x1x2_0_0_0_0
  · exact slices_S14x18944x8x2_S14x18944x1x2_0_0_1_0
  · exact slices_S14x18944x8x2_S14x18944x1x2_0_0_2_0
  · exact slices_S14x18944x8x2_S14x18944x1x2_0_0_3_0
  · exact slices_S14x18944x8x2_S14x18944x1x2_0_0_4_0
  · exact slices_S14x18944x8x2_S14x18944x1x2_0_0_5_0
  · exact slices_S14x18944x8x2_S14x18944x1x2_0_0_6_0
  · exact slices_S14x18944x8x2_S14x18944x1x2_0_0_7_0

/-- Half `h`, field `j` lies within the activations. -/
theorem act_slices (h : Fin 2) (j : Fin 4) :
    S1x128x14x2x4x32.Slices ![0, 0, 0, h.val, j.val, 0] S1x128x14x1x1x32 := by
  fin_cases h <;> fin_cases j
  · exact slices_S1x128x14x2x4x32_S1x128x14x1x1x32_0_0_0_0_0_0
  · exact slices_S1x128x14x2x4x32_S1x128x14x1x1x32_0_0_0_0_1_0
  · exact slices_S1x128x14x2x4x32_S1x128x14x1x1x32_0_0_0_0_2_0
  · exact slices_S1x128x14x2x4x32_S1x128x14x1x1x32_0_0_0_0_3_0
  · exact slices_S1x128x14x2x4x32_S1x128x14x1x1x32_0_0_0_1_0_0
  · exact slices_S1x128x14x2x4x32_S1x128x14x1x1x32_0_0_0_1_1_0
  · exact slices_S1x128x14x2x4x32_S1x128x14x1x1x32_0_0_0_1_2_0
  · exact slices_S1x128x14x2x4x32_S1x128x14x1x1x32_0_0_0_1_3_0

/-- A word on every lane of the quants' shape. -/
def splat (w : BitVec 32) : IVec S14x18944x32 32 :=
  broadcastInDim S14x18944x32 ![] bcast_S_S14x18944x32 (constantI S_ 32 w)

/-- The quants of half `h`, field `j`. -/
def quants (h : Fin 2) (j : Fin 4) : IVec S14x18944x32 32 :=
  subi (addi (andi (Host.shrsi (shapeCast S14x18944x32
      (extractStridedSlice S14x18944x1x32 ![0, 0, h.val, 0] (val_main_v67 (F := Ideal) x2) (half_slices h))
      shapeCasts_S14x18944x1x32_S14x18944x32) (splat (BitVec.ofNat 32 (2 * j.val)))) (splat 3#32))
    (muli (splat 4#32) (andi (Host.shrsi (val_main_v68 (F := Ideal) x1) (splat (BitVec.ofNat 32 (4 * h.val + j.val)))) (splat 1#32))))
    (splat 4#32)

/-- The scales of half `h`, field `j`, one for each of the 32 bytes. -/
def scaleRow (h : Fin 2) (j : Fin 4) : S14x18944x32.Idx → EReal :=
  shapeCast S14x18944x32 (broadcastInDim S14x18944x2x16 ![0, 1, 2] bcast_S14x18944x2_S14x18944x2x16_0_1_2
    (shapeCast S14x18944x2 (extractStridedSlice S14x18944x1x2 ![0, 0, 4 * h.val + j.val, 0]
      (val_main_v65 (F := Ideal) x3 x4) (scale_slices h j)) shapeCasts_S14x18944x1x2_S14x18944x2))
    shapeCasts_S14x18944x2x16_S14x18944x32

/-- The weights of half `h`, field `j`. -/
def weights (h : Fin 2) (j : Fin 4) : Vec Ideal S14x18944x32 .bf16 :=
  mulf (F := Ideal) (φ := .bf16) (sitofp (F := Ideal) .bf16 (quants x1 x2 h j)) (scaleRow x3 x4 h j)

/-- The activations of half `h`, field `j`. -/
def actRows (h : Fin 2) (j : Fin 4) : Vec Ideal S1x128x14x32 .bf16 :=
  shapeCast S1x128x14x32 (extractStridedSlice S1x128x14x1x1x32 ![0, 0, 0, h.val, j.val, 0]
    (val_main_v69 (F := Ideal) x0) (act_slices h j)) shapeCasts_S1x128x14x1x1x32_S1x128x14x32

/-- The product of half `h`, field `j`. -/
def product (h : Fin 2) (j : Fin 4) : Vec Ideal S1x128x18944 .f32 :=
  Host.dotGeneral (F := Ideal) (φ₁ := .bf16) (φ₂ := .bf16) dot_S1x128x14x32_S14x18944x32_S1x128x18944_32_20_01_1_n_n none
    (actRows x0 h j) (weights x1 x2 x3 x4 h j)

/-! ### Read entry by entry -/

/-- A quant, from its quant byte and its mask byte. -/
theorem quants_apply (h : Fin 2) (j : Fin 4) (b : Fin 14) (n : Fin 18944) (l : Fin 32) :
    quants x1 x2 h j (ix3 b n l) = quant (x2 (ix3 b n (quantByte h l))) (x1 (ix3 b n l)) h j := by
  have q : shapeCast S14x18944x32
      (extractStridedSlice S14x18944x1x32 ![0, 0, h.val, 0] (val_main_v67 (F := Ideal) x2) (half_slices h))
      shapeCasts_S14x18944x1x32_S14x18944x32 (ix3 b n l) = (x2 (ix3 b n (quantByte h l))).setWidth 32 := by
    rw [shapeCast_apply _ _ _ (ix4 b n (0 : Fin 1) l) (by
        rw [Shape.rowMajor_val_four, Shape.rowMajor_val_three]
        show ((b.val * 18944 + n.val) * 1 + 0) * 32 + l.val = (b.val * 18944 + n.val) * 32 + l.val
        omega),
      extractStridedSlice_apply _ _ _ _ (ix4 b n h l) (by
        intro a; fin_cases a
        · exact (Nat.zero_add _).symm
        · exact (Nat.zero_add _).symm
        · rfl
        · exact (Nat.zero_add _).symm),
      val_main_v67_apply]
    have e : (val_main_v66 (F := Ideal) x2 (ix4 b n h l) : BitVec 8) = x2 (ix3 b n (quantByte h l)) := by
      unfold val_main_v66
      refine shapeCast_apply _ _ _ _ ?_
      rw [Shape.rowMajor_val_three, Shape.rowMajor_val_four]
      show (b.val * 18944 + n.val) * 64 + (32 * h.val + l.val) = ((b.val * 18944 + n.val) * 2 + h.val) * 32 + l.val
      omega
    rw [e]
  show IntOp.subi (IntOp.addi (IntOp.andi (IntOp.shrsi .host (shapeCast S14x18944x32
      (extractStridedSlice S14x18944x1x32 ![0, 0, h.val, 0] (val_main_v67 (F := Ideal) x2) (half_slices h))
      shapeCasts_S14x18944x1x32_S14x18944x32 (ix3 b n l)) (BitVec.ofNat 32 (2 * j.val))) 3#32)
    (IntOp.muli 4#32 (IntOp.andi (IntOp.shrsi .host ((x1 (ix3 b n l)).setWidth 32) (BitVec.ofNat 32 (4 * h.val + j.val))) 1#32)))
    4#32 = _
  rw [q, shrsi_ofNat _ _ (by omega), shrsi_ofNat _ _ (by omega)]
  rfl

/-- The scale of byte `l`. -/
theorem scaleRow_apply (h : Fin 2) (j : Fin 4) (b : Fin 14) (n : Fin 18944) (l : Fin 32) :
    scaleRow x3 x4 h j (ix3 b n l)
      = scaleVal (x3 (ix3 b n (lowerByte (groupOf j l)))) (x3 (ix3 b n (upperByte (groupOf j l)))) (x4 (ix2 b n)) h
          (groupOf j l) := by
  unfold scaleRow
  rw [shapeCast_apply _ _ _ (ix4 b n (⟨l.val / 16, by omega⟩ : Fin 2) (⟨l.val % 16, by omega⟩ : Fin 16)) (by
      rw [Shape.rowMajor_val_four, Shape.rowMajor_val_three]
      show ((b.val * 18944 + n.val) * 2 + l.val / 16) * 16 + l.val % 16 = (b.val * 18944 + n.val) * 32 + l.val
      omega),
    broadcastInDim_apply _ _ _ _ (ix3 b n (⟨l.val / 16, by omega⟩ : Fin 2)) (by intro a; fin_cases a <;> rfl),
    shapeCast_apply _ _ _ (ix4 b n (0 : Fin 1) (⟨l.val / 16, by omega⟩ : Fin 2)) (by
      rw [Shape.rowMajor_val_four, Shape.rowMajor_val_three]
      show ((b.val * 18944 + n.val) * 1 + 0) * 2 + l.val / 16 = (b.val * 18944 + n.val) * 2 + l.val / 16
      omega),
    extractStridedSlice_apply _ _ _ _ (ix4 b n (⟨4 * h.val + j.val, by omega⟩ : Fin 8) (⟨l.val / 16, by omega⟩ : Fin 2)) (by
      intro a; fin_cases a
      · exact (Nat.zero_add _).symm
      · exact (Nat.zero_add _).symm
      · rfl
      · exact (Nat.zero_add _).symm)]
  rw [← scale_apply]
  unfold val_main_v65
  refine shapeCast_apply _ _ _ _ ?_
  rw [Shape.rowMajor_val_three, Shape.rowMajor_val_four]
  show (b.val * 18944 + n.val) * 16 + (8 * h.val + (2 * j.val + l.val / 16))
    = ((b.val * 18944 + n.val) * 8 + (4 * h.val + j.val)) * 2 + l.val / 16
  omega

/-- A weight is the dequantized weight. -/
theorem weights_apply (h : Fin 2) (j : Fin 4) (b : Fin 14) (n : Fin 18944) (l : Fin 32) :
    (weights x1 x2 x3 x4 h j (ix3 b n l) : EReal)
      = weightOf (x2 (ix3 b n (quantByte h l))) (x1 (ix3 b n l)) (x3 (ix3 b n (lowerByte (groupOf j l))))
          (x3 (ix3 b n (upperByte (groupOf j l)))) (x4 (ix2 b n)) h j (groupOf j l) := by
  have e : (weights x1 x2 x3 x4 h j (ix3 b n l) : EReal)
      = (((quants x1 x2 h j (ix3 b n l) : BitVec 32).toInt : ℝ) : EReal) * scaleRow x3 x4 h j (ix3 b n l) := rfl
  rw [e, quants_apply, scaleRow_apply]
  rfl

/-- An activation row is read at its column. -/
theorem actRows_apply (h : Fin 2) (j : Fin 4) (s : Fin 128) (b : Fin 14) (l : Fin 32) :
    (actRows x0 h j (ix4 0 s b l) : EReal) = x0 (ix3 0 s (actIndex b h j l)) := by
  unfold actRows
  rw [shapeCast_apply _ _ _ (ix6 (0 : Fin 1) s b (0 : Fin 1) (0 : Fin 1) l) (by
      rw [Shape.rowMajor_val_six, Shape.rowMajor_val_four]
      show ((((0 * 128 + s.val) * 14 + b.val) * 1 + 0) * 1 + 0) * 32 + l.val = ((0 * 128 + s.val) * 14 + b.val) * 32 + l.val
      omega),
    extractStridedSlice_apply _ _ _ _ (ix6 (0 : Fin 1) s b h j l) (by
      intro a; fin_cases a
      · rfl
      · exact (Nat.zero_add _).symm
      · exact (Nat.zero_add _).symm
      · rfl
      · rfl
      · exact (Nat.zero_add _).symm)]
  unfold val_main_v69
  refine shapeCast_apply _ _ _ _ ?_
  rw [Shape.rowMajor_val_three, Shape.rowMajor_val_six]
  show (0 * 128 + s.val) * 3584 + (256 * b.val + 128 * h.val + 32 * j.val + l.val)
    = ((((0 * 128 + s.val) * 14 + b.val) * 2 + h.val) * 4 + j.val) * 32 + l.val
  omega

/-- The contraction over block and byte, at an entry. -/
theorem dot_apply (lhs : S1x128x14x32.Idx → EReal) (rhs : S14x18944x32.Idx → EReal) (s : Fin 128) (n : Fin 18944) :
    Ideal.matmul dot_S1x128x14x32_S14x18944x32_S1x128x18944_32_20_01_1_n_n lhs rhs (fun _ => 0) (ix3 0 s n)
      = ∑ b : Fin 14, ∑ l : Fin 32, lhs (ix4 0 s b l) * rhs (ix3 b n l) := by
  rw [Ideal.matmul_apply₂_of dot_S1x128x14x32_S14x18944x32_S1x128x18944_32_20_01_1_n_n (a := 3) (b := 2)
    (K₁ := 32) (K₂ := 14) rfl rfl rfl lhs rhs (fun _ => 0) (ix3 0 s n) (fun l b => ix4 0 s b l) (fun l b => ix3 b n l)
    (by intro l b; funext a; apply Fin.ext; fin_cases a <;> rfl)
    (by intro l b; funext a; apply Fin.ext; fin_cases a <;> rfl)]
  rw [zero_add, Finset.sum_comm]

/-- An entry of one product is the sum of its terms. -/
theorem product_apply (h : Fin 2) (j : Fin 4) (s : Fin 128) (n : Fin 18944) :
    (product x0 x1 x2 x3 x4 h j (ix3 0 s n) : EReal)
      = ∑ b : Fin 14, ∑ l : Fin 32, term x0 x1 x2 x3 x4 s n b h j l := by
  have e : (product x0 x1 x2 x3 x4 h j (ix3 0 s n) : EReal)
      = Ideal.matmul dot_S1x128x14x32_S14x18944x32_S1x128x18944_32_20_01_1_n_n (actRows x0 h j)
          (weights x1 x2 x3 x4 h j) (fun _ => 0) (ix3 0 s n) := rfl
  have terms : ∀ b l, (actRows x0 h j (ix4 0 s b l) : EReal) * (weights x1 x2 x3 x4 h j (ix3 b n l) : EReal)
      = term x0 x1 x2 x3 x4 s n b h j l := by
    intro b l
    rw [actRows_apply, weights_apply]
    rfl
  rw [e, dot_apply]
  simp only [terms]

end Cert.ReferenceIdeal.Read
end
-- ==== Proof.RefSum.lean ====
module

public import proofs.«01_k».proof.Proof.RefProducts

/-!
What the reference's result holds: the sum of the eight products, entry by entry.
-/

@[expose] public section

noncomputable section

namespace Cert.ReferenceIdeal.Read
open Cert.ReferenceIdeal Cert.ReferenceIdeal.Gen Idealize.ShloMosaic.ValueIdx Cert.Proof
open Idealize.ShloMosaic hiding ix1 ix2 ix3 ix4 ix5 ix6
open scoped BigOperators

variable (x0 : S1x128x3584.Idx → EReal) (x1 : S14x18944x32.Idx → BitVec 8) (x2 : S14x18944x64.Idx → BitVec 8)
  (x3 : S14x18944x12.Idx → BitVec 8) (x4 : S14x18944.Idx → BitVec 16)

/-! ### The program's products are the one product at the eight pairs -/

/-- The product of half 0, field 0. -/
theorem product_0_0 : val_main_v93 (F := Ideal) x0 x1 x2 x3 x4 = product x0 x1 x2 x3 x4 0 0 := rfl
/-- The product of half 0, field 1. -/
theorem product_0_1 : val_main_v117 (F := Ideal) x0 x1 x2 x3 x4 = product x0 x1 x2 x3 x4 0 1 := rfl
/-- The product of half 0, field 2. -/
theorem product_0_2 : val_main_v142 (F := Ideal) x0 x1 x2 x3 x4 = product x0 x1 x2 x3 x4 0 2 := rfl
/-- The product of half 0, field 3. -/
theorem product_0_3 : val_main_v167 (F := Ideal) x0 x1 x2 x3 x4 = product x0 x1 x2 x3 x4 0 3 := rfl
/-- The product of half 1, field 0. -/
theorem product_1_0 : val_main_v192 (F := Ideal) x0 x1 x2 x3 x4 = product x0 x1 x2 x3 x4 1 0 := rfl
/-- The product of half 1, field 1. -/
theorem product_1_1 : val_main_v217 (F := Ideal) x0 x1 x2 x3 x4 = product x0 x1 x2 x3 x4 1 1 := rfl
/-- The product of half 1, field 2. -/
theorem product_1_2 : val_main_v242 (F := Ideal) x0 x1 x2 x3 x4 = product x0 x1 x2 x3 x4 1 2 := rfl
/-- The product of half 1, field 3. -/
theorem product_1_3 : val_main_v267 (F := Ideal) x0 x1 x2 x3 x4 = product x0 x1 x2 x3 x4 1 3 := rfl

/-- The eight products are added one after another. -/
theorem sum_apply (s : Fin 128) (n : Fin 18944) :
    (val_main_v268 (F := Ideal) x0 x1 x2 x3 x4 (ix3 0 s n) : EReal)
      = ∑ h : Fin 2, ∑ j : Fin 4, (product x0 x1 x2 x3 x4 h j (ix3 0 s n) : EReal) := by
  have e : (val_main_v268 (F := Ideal) x0 x1 x2 x3 x4 (ix3 0 s n) : EReal)
      = (((((((val_main_v93 (F := Ideal) x0 x1 x2 x3 x4 (ix3 0 s n) : EReal)
        + val_main_v117 (F := Ideal) x0 x1 x2 x3 x4 (ix3 0 s n))
        + val_main_v142 (F := Ideal) x0 x1 x2 x3 x4 (ix3 0 s n))
        + val_main_v167 (F := Ideal) x0 x1 x2 x3 x4 (ix3 0 s n))
        + val_main_v192 (F := Ideal) x0 x1 x2 x3 x4 (ix3 0 s n))
        + val_main_v217 (F := Ideal) x0 x1 x2 x3 x4 (ix3 0 s n))
        + val_main_v242 (F := Ideal) x0 x1 x2 x3 x4 (ix3 0 s n))
        + val_main_v267 (F := Ideal) x0 x1 x2 x3 x4 (ix3 0 s n) := rfl
  rw [e, product_0_0, product_0_1, product_0_2, product_0_3, product_1_0, product_1_1, product_1_2, product_1_3,
    Fin.sum_univ_two, Fin.sum_univ_four, Fin.sum_univ_four]
  simp only [add_assoc]

/-- **The reference's result is the product.** -/
theorem result_apply (s : Fin 128) (n : Fin 18944) :
    (val_main_v270 (F := Ideal) x0 x1 x2 x3 x4 (ix2 s n) : EReal) = entry x0 x1 x2 x3 x4 s n := by
  have e : (val_main_v270 (F := Ideal) x0 x1 x2 x3 x4 (ix2 s n) : EReal)
      = (val_main_v268 (F := Ideal) x0 x1 x2 x3 x4 (ix3 0 s n) : EReal) := by
    unfold val_main_v270
    refine shapeCast_apply (val_main_v269 (F := Ideal) x0 x1 x2 x3 x4) _ _ (ix3 0 s n) ?_
    rw [Shape.rowMajor_val_three, Shape.rowMajor_val_two]
    show (0 * 128 + s.val) * 18944 + n.val = s.val * 18944 + n.val
    omega
  have swap : ∀ h : Fin 2, ∑ j : Fin 4, ∑ b : Fin 14, ∑ l : Fin 32, term x0 x1 x2 x3 x4 s n b h j l
      = ∑ b : Fin 14, ∑ j : Fin 4, ∑ l : Fin 32, term x0 x1 x2 x3 x4 s n b h j l := fun h => Finset.sum_comm
  rw [e, sum_apply]
  simp only [product_apply, swap]
  exact Finset.sum_comm

end Cert.ReferenceIdeal.Read
end
-- ==== Proof.Equation.lean ====
module

public import proofs.«01_k».proof.Proof.RefSum

/-!
The equation: on equal arguments, the kernel's array and the reference's result are the same array.
-/

@[expose] public section

noncomputable section

namespace Cert.Proof
open Idealize.ShloMosaic.ValueIdx
open Idealize.ShloMosaic hiding ix1 ix2 ix3 ix4 ix5 ix6

/-- Two arrays over the same index set with the same entries at every row and column are equal. -/
theorem array_ext {x y : (⟨2, ![128, 18944]⟩ : Shape).Idx → EReal} (h : ∀ s n, x (ix2 s n) = y (ix2 s n)) : x = y := by
  funext i
  have e : i = ix2 (i 0) (i 1) := by
    funext a; fin_cases a <;> rfl
  rw [e]
  exact h _ _

/-- **The reference's result, over the kernel's arguments, is the kernel's array.** -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v270 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Value.G5 m c :=
  array_ext fun s n => (Cert.ReferenceIdeal.Read.result_apply _ _ _ _ _ s n).trans
    (Cert.KernelIdeal.Body.G5_apply m c s n).symm

end Cert.Proof
end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel.Frame
public import proofs.«01_k».proof.Proof.Gen.KernelIdeal.Frame
public import proofs.«01_k».proof.Proof.Equation
public import Idealize.ShloMosaic.Lib.Bf16PairInverse

@[expose] public section

open Idealize.ShloMosaic

/-- On equal arguments the kernel and the reference leave the same result and keep their arguments. -/
theorem Cert.Proof.algebraic : Cert.algebraic_KernelIdeal_ReferenceIdeal
    (hKernelIdeal := Cert.KernelIdeal.Gen.facts) (hReferenceIdeal := Cert.ReferenceIdeal.Gen.facts) := by
  intro m g m' g' _ hargs
  refine ⟨fun c => Cert.KernelIdeal.Value.G5 m c, Cert.KernelIdeal.Value.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4⟩ := hargs c
  refine (Cert.ReferenceIdeal.Read.val_main_v270_eq (F := Ideal) (StableHlo.launchContents m' c)).trans ?_
  rw [StableHlo.launchContents_devRef, StableHlo.launchContents_devRef, StableHlo.launchContents_devRef,
    StableHlo.launchContents_devRef, StableHlo.launchContents_devRef, h0, h1, h2, h3, h4]
  exact Cert.Proof.result_eq m c

/-- Everything claimed of the kernel and the reference. -/
theorem Cert.Proof.claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run Cert.ReferenceIdeal.defs _ _).mono
      (fun r h => ⟨fun c => (h c).2, Idealize.ShloMosaic.sem_eq_zero_of_no_sems (by decide) r.2⟩) (Cert.ReferenceIdeal.Value.run m ρ),
    ⟨IdealRules.bf16_pair.bufferStatement _ _, IdealRules.bf16_pair.packStatement _,
      IdealRules.bf16_pair.statement _ _, IdealRules.bf16_pair.statement _ _,
      IdealRules.bf16_pair.statement _ _⟩,
    Cert.Proof.algebraic⟩

end
